-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6_2)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_3)) (v3 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_2) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_3) = v2 c
          ∧ r.2.mem ((c.tc : Thread Cert.KernelIdeal.nD Cert.KernelIdeal.τ).loc Cert.KernelIdeal.main_v6_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x32x32x32x32 : Shape := ⟨5, ![2, 32, 32, 32, 32]⟩
abbrev S512x32 : Shape := ⟨2, ![512, 32]⟩
abbrev S_ : Shape := ⟨0, ![]⟩

class Facts : Prop where
  bcast_S_S2x32x32x32x32 : S_.BroadcastsInDim S2x32x32x32x32 (![] : Fin 0 → Fin S2x32x32x32x32.rank)
  reducesTo_S2x32x32x32x32_S_d0_1_2_3_4 : S2x32x32x32x32.ReducesTo [0, 1, 2, 3, 4] S_
  h_S_ : 0 < S_.numel
  bcast_S_S512x32 : S_.BroadcastsInDim S512x32 (![] : Fin 0 → Fin S512x32.rank)
  reducesTo_S512x32_S_d0_1 : S512x32.ReducesTo [0, 1] S_

variable [Facts]

def fn {F : FTy → Type} [FloatOps F] (main_arg0 : FVec F S2x32x32x32x32 .f32) (main_arg1 : FVec F S512x32 .f32) : IVec S_ 1 :=
  let main_v0 : FVec F S2x32x32x32x32 .f32 := Host.absf main_arg0
  let main_cst : FVec F S_ .f32 := constant S_ .f32 0x7F800000#32
  let main_v1 : FVec F S2x32x32x32x32 .f32 := broadcastInDim S2x32x32x32x32 ![] bcast_S_S2x32x32x32x32 main_cst
  let main_v2 : IVec S2x32x32x32x32 1 := cmpf .olt main_v0 main_v1
  let main_c : IVec S_ 1 := constantI S_ 1 1#1
  let main_v3 : IVec S_ 1 := (fun x v => Host.reduce IntOp.andi x v reducesTo_S2x32x32x32x32_S_d0_1_2_3_4 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  main_v8
-- ==== Kernel.lean ====
abbrev S2x32x32x32x32 : Shape := ⟨5, ![2, 32, 32, 32, 32]⟩
abbrev S512x32 : Shape := ⟨2, ![512, 32]⟩
abbrev S32x512 : Shape := ⟨2, ![32, 512]⟩
abbrev S_ : Shape := ⟨0, ![]⟩
abbrev S512 : Shape := ⟨1, ![512]⟩
abbrev S512x1 : Shape := ⟨2, ![512, 1]⟩
abbrev S65536x512 : Shape := ⟨2, ![65536, 512]⟩
abbrev S1x1 : Shape := ⟨2, ![1, 1]⟩
abbrev S1x32x2x32x32 : Shape := ⟨5, ![1, 32, 2, 32, 32]⟩
abbrev S2048x512 : Shape := ⟨2, ![2048, 512]⟩
abbrev S1x512 : Shape := ⟨2, ![1, 512]⟩
abbrev S32x2x32x32 : Shape := ⟨4, ![32, 2, 32, 32]⟩
abbrev S32x2048 : Shape := ⟨2, ![32, 2048]⟩
abbrev S512x2048 : Shape := ⟨2, ![512, 2048]⟩
abbrev S2048 : Shape := ⟨1, ![2048]⟩
abbrev S1x2048 : Shape := ⟨2, ![1, 2048]⟩
abbrev S1x1x2048 : Shape := ⟨3, ![1, 1, 2048]⟩
abbrev S1 : Shape := ⟨1, ![1]⟩
abbrev S1x1x1 : Shape := ⟨3, ![1, 1, 1]⟩
abbrev S1x1x512 : Shape := ⟨3, ![1, 1, 512]⟩

abbrev nBuf : Space → Nat
  | .hbm => 14
  | .vmem => 12
  | .smem => 0
  | _ => 0

abbrev bufTy : (tb : Table) → Fin (tcTables nBuf tb) → BufTy
  | .hbm, ⟨0, _⟩ => ⟨S2x32x32x32x32, .f32⟩
  | .hbm, ⟨1, _⟩ => ⟨S512x32, .f32⟩
  | .hbm, ⟨2, _⟩ => ⟨S32x512, .f32⟩
  | .hbm, ⟨3, _⟩ => ⟨S_, .f32⟩
  | .hbm, ⟨4, _⟩ => ⟨S512x32, .f32⟩
  | .hbm, ⟨5, _⟩ => ⟨S512x32, .f32⟩
  | .hbm, ⟨6, _⟩ => ⟨S512x32, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S65536x512, .f32⟩
  | .hbm, ⟨11, _⟩ => ⟨S2x32x32x32x32, .f32⟩
  | .hbm, ⟨12, _⟩ => ⟨S1x1, .f32⟩
  | .hbm, ⟨13, _⟩ => ⟨S1x1, .f32⟩
  | .local _ .vmem, ⟨0, _⟩ => ⟨S1x32x2x32x32, .f32⟩
  | .local _ .vmem, ⟨1, _⟩ => ⟨S1x32x2x32x32, .f32⟩
  | .local _ .vmem, ⟨2, _⟩ => ⟨S512x32, .f32⟩
  | .local _ .vmem, ⟨3, _⟩ => ⟨S512x1, .f32⟩
  | .local _ .vmem, ⟨4, _⟩ => ⟨S32x512, .f32⟩
  | .local _ .vmem, ⟨5, _⟩ => ⟨S2048x512, .f32⟩
  | .local _ .vmem, ⟨6, _⟩ => ⟨S2048x512, .f32⟩
  | .local _ .vmem, ⟨7, _⟩ => ⟨S1x32x2x32x32, .f32⟩
  | .local _ .vmem, ⟨8, _⟩ => ⟨S1x32x2x32x32, .f32⟩
  | .local _ .vmem, ⟨9, _⟩ => ⟨S1x1, .f32⟩
  | .local _ .vmem, ⟨10, _⟩ => ⟨S1x1, .f32⟩
  | .local _ .vmem, ⟨11, _⟩ => ⟨S1x512, .f32⟩
  | _, _ => ⟨S2x32x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v59 : BitVec 1 := Scalar.cmpi .eq v1 c31_i32
  let v60 : BitVec 32 := Scalar.extui v59
  let c0_i32_34 : BitVec 32 := 0#32
  let v61 : BitVec 1 := Scalar.cmpi .ne v60 c0_i32_34
  v61

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x2x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x2x32x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S2x32x32x32x32 : Shape := ⟨5, ![2, 32, 32, 32, 32]⟩
abbrev S512x32 : Shape := ⟨2, ![512, 32]⟩
abbrev S65536x32 : Shape := ⟨2, ![65536, 32]⟩
abbrev S_ : Shape := ⟨0, ![]⟩
abbrev S65536 : Shape := ⟨1, ![65536]⟩
abbrev S65536x1 : Shape := ⟨2, ![65536, 1]⟩
abbrev S512 : Shape := ⟨1, ![512]⟩
abbrev S1x512 : Shape := ⟨2, ![1, 512]⟩
abbrev S65536x512 : Shape := ⟨2, ![65536, 512]⟩
abbrev S32x512 : Shape := ⟨2, ![32, 512]⟩
abbrev S65536x2 : Shape := ⟨2, ![65536, 2]⟩
abbrev S1x1 : Shape := ⟨2, ![1, 1]⟩

abbrev nBuf : Space → Nat
  | .hbm => 85
  | .vmem => 0
  | .smem => 0
  | _ => 0

abbrev bufTy : (tb : Table) → Fin (tcTables nBuf tb) → BufTy
  | .hbm, ⟨0, _⟩ => ⟨S2x32x32x32x32, .f32⟩
  | .hbm, ⟨1, _⟩ => ⟨S512x32, .f32⟩
  | .hbm, ⟨2, _⟩ => ⟨S2x32x32x32x32, .f32⟩
  | .hbm, ⟨3, _⟩ => ⟨S65536x32, .f32⟩
  | .hbm, ⟨4, _⟩ => ⟨S65536x32, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S512x32, .f32⟩
  | .hbm, ⟨9, _⟩ => ⟨S_, .f32⟩
  | .hbm, ⟨10, _⟩ => ⟨S512, .f32⟩
  | .hbm, ⟨11, _⟩ => ⟨S1x512, .f32⟩
  | .hbm, ⟨12, _⟩ => ⟨S65536x512, .f32⟩
  | .hbm, ⟨13, _⟩ => ⟨S65536x512, .f32⟩
  | .hbm, ⟨14, _⟩ => ⟨S65536x512, .f32⟩
  | .hbm, ⟨15, _⟩ => ⟨S32x512, .f32⟩
  | .hbm, ⟨16, _⟩ => ⟨S65536x512, .f32⟩
  | .hbm, ⟨17, _⟩ => ⟨S_, .f32⟩
  | .hbm, ⟨18, _⟩ => ⟨S65536x512, .f32⟩
  | .hbm, ⟨19, _⟩ => ⟨S65536x512, .f32⟩
  | .hbm, ⟨20, _⟩ => ⟨S65536x512, .f32⟩
  | .hbm, ⟨21, _⟩ => ⟨S65536x512, .i32⟩
  | .hbm, ⟨22, _⟩ => ⟨S_, .f32⟩
  | .hbm, ⟨23, _⟩ => ⟨S_, .i32⟩
  | .hbm, ⟨24, _⟩ => ⟨S65536, .f32⟩
  | .hbm, ⟨25, _⟩ => ⟨S65536, .i32⟩
  | .hbm, ⟨26, _⟩ => ⟨S_, .f32⟩
  | .hbm, ⟨27, _⟩ => ⟨S65536x512, .f32⟩
  | .hbm, ⟨28, _⟩ => ⟨S65536, .i32⟩
  | .hbm, ⟨29, _⟩ => ⟨S_, .i32⟩
  | .hbm, ⟨30, _⟩ => ⟨S65536, .i32⟩
  | .hbm, ⟨31, _⟩ => ⟨S65536, .i1⟩
  | .hbm, ⟨32, _⟩ => ⟨S_, .i32⟩
  | .hbm, ⟨33, _⟩ => ⟨S65536, .i32⟩
  | .hbm, ⟨34, _⟩ => ⟨S65536, .i32⟩
  | .hbm, ⟨35, _⟩ => ⟨S65536, .i32⟩
  | .hbm, ⟨36, _⟩ => ⟨S_, .i32⟩
  | .hbm, ⟨37, _⟩ => ⟨S65536, .i32⟩
  | .hbm, ⟨38, _⟩ => ⟨S65536, .i1⟩
  | .hbm, ⟨39, _⟩ => ⟨S_, .i32⟩
  | .hbm, ⟨40, _⟩ => ⟨S65536, .i32⟩
  | .hbm, ⟨41, _⟩ => ⟨S65536, .i32⟩
  | .hbm, ⟨42, _⟩ => ⟨S65536, .i32⟩
  | .hbm, ⟨43, _⟩ => ⟨S65536x1, .i32⟩
  | .hbm, ⟨44, _⟩ => ⟨S65536x1, .i32⟩
  | .hbm, ⟨45, _⟩ => ⟨S65536x2, .i32⟩
  | .hbm, ⟨46, _⟩ => ⟨S_, .f32⟩
  | .hbm, ⟨47, _⟩ => ⟨S65536, .f32⟩
  | .hbm, ⟨48, _⟩ => ⟨S65536x512, .f32⟩
  | .hbm, ⟨49, _⟩ => ⟨S65536x32, .f32⟩
  | .hbm, ⟨50, _⟩ => ⟨S2x32x32x32x32, .f32⟩
  | .hbm, ⟨51, _⟩ => ⟨S2x32x32x32x32, .f32⟩
  | .hbm, ⟨52, _⟩ => ⟨S2x32x32x32x32, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S2x32x32x32x32, .f32⟩
  | .hbm, ⟨58, _⟩ => ⟨S2x32x32x32x32, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S2x32x32x32x32, .f32⟩
  | .hbm, ⟨67, _⟩ => ⟨S2x32x32x32x32, .f32⟩
  | .hbm, ⟨68, _⟩ => ⟨S_, .f32⟩
  | .hbm, ⟨69, _⟩ => ⟨S512, .f32⟩
  | .hbm, ⟨70, _⟩ => ⟨S_, .f32⟩
  | .hbm, ⟨71, _⟩ => ⟨S512, .f32⟩
  | .hbm, ⟨72, _⟩ => ⟨S512, .f32⟩
  | .hbm, ⟨73, _⟩ => ⟨S_, .f32⟩
  | .hbm, ⟨74, _⟩ => ⟨S512, .f32⟩
  | .hbm, ⟨75, _⟩ => ⟨S512, .f32⟩
  | .hbm, ⟨76, _⟩ => ⟨S512, .f32⟩
  | .hbm, ⟨77, _⟩ => ⟨S512, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S2x32x32x32x32, .f32⟩
  | .hbm, ⟨83, _⟩ => ⟨S1x1, .f32⟩
  | .hbm, ⟨84, _⟩ => ⟨S1x1, .f32⟩
  | _, _ => ⟨S2x32x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_cst_13 : Ref sig .tc := ⟨.hbm, 70, rfl⟩
abbrev main_v49 : Ref sig .tc := ⟨.hbm, 71, rfl⟩
abbrev main_v50 : Ref sig .tc := ⟨.hbm, 72, rfl⟩
abbrev main_cst_14 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_15 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== Proof.Finite.lean ====
/- What the precondition says: both arguments' entries are real numbers. -/
module

public import proofs.«01_k».proof.Pre_finite
public import Idealize.ShloMosaic.Lib.ReduceAll
public import Idealize.ShloMosaic.Lib.Pointwise
public import Idealize.ShloMosaic.PureOps.Ideal.Laws

@[expose] public section

set_option maxRecDepth 16384

noncomputable section

namespace Cert.Pre_finite

open Idealize.ShloMosaic

/-- The shape relations of the precondition's operations. -/
theorem facts : Cert.Pre_finite.Facts where
  bcast_S_S2x32x32x32x32 := by decide
  reducesTo_S2x32x32x32x32_S_d0_1_2_3_4 := by decide
  h_S_ := by decide
  bcast_S_S512x32 := by decide
  reducesTo_S512x32_S_d0_1 := by decide

instance : Subsingleton S_.Idx := ⟨fun a b => funext fun i => i.elim0⟩

/-- An extended real whose absolute value is below the top is a real number. -/
theorem real_of_lt (a : EReal) (h : Ideal.cmp .olt (max a (-a)) ⊤ = 1#1) : a = ((a.toReal : ℝ) : EReal) := by
  have h' : max a (-a) < ⊤ := by
    by_contra hn
    simp [Ideal.cmp, hn] at h
  refine (EReal.coe_toReal ?_ ?_).symm
  · rintro rfl
    simp at h'
  · rintro rfl
    simp at h'

theorem inf_word : Ideal.ofBits .f32 0x7F800000#32 = (⊤ : EReal) := by
  simp [Ideal.ofBits, Ideal.ieee]

/-- Arguments that meet the precondition have real entries. -/
theorem real_of_fn [Facts] (x : FVec Ideal S2x32x32x32x32 .f32) (w : FVec Ideal S512x32 .f32)
    (h : fn (F := Ideal) x w = fun _ => 1#1) :
    (∀ i, x i = (((x i).toReal : ℝ) : EReal)) ∧ ∀ i, w i = (((w i).toReal : ℝ) : EReal) := by
  have h0 := congrFun h (fun a => a.elim0)
  unfold fn at h0
  dsimp only at h0
  obtain ⟨h1, h2⟩ := (IntOp.andi_eq_one).1 h0
  constructor
  · intro i
    refine real_of_lt _ ?_
    have := Host.reduce_andi_all _ _ _ _ _ h1 i
    rw [← inf_word]
    exact this
  · intro i
    refine real_of_lt _ ?_
    have := Host.reduce_andi_all _ _ _ _ _ h2 i
    rw [← inf_word]
    exact this

end Cert.Pre_finite

end
-- ==== Proof.Cases.lean ====
/- What one grid point leaves: each case's contents of the outputs' buffers and of the carried counts, as the kernel's own values. -/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.Kern

open Idealize.ShloMosaic Idealize.ShloMosaic.TcCoe Idealize.SL.Sem Cert.KernelIdeal Cert.KernelIdeal.Gen

variable {F : FTy → Type} [FloatOps F]

theorem zero2 : (![0, 0] : Fin 2 → Nat) = fun _ => 0 := funext fun a => by fin_cases a <;> rfl

theorem zero5 : (![0, 0, 0, 0, 0] : Fin 5 → Nat) = fun _ => 0 := funext fun a => by fin_cases a <;> rfl

section Point
variable (c : Dev nD) (i : grid0.Coords) (a2 : Memref sig .tc .vmem S1x32x2x32x32 .f32) (h2 : a2.IsWhole)
  (a3 : Memref sig .tc .vmem S512x32 .f32) (h3 : a3.IsWhole) (a4 : Memref sig .tc .vmem S512x1 .f32) (h4 : a4.IsWhole)
  (a5 : Memref sig .tc .vmem S32x512 .f32) (h5 : a5.IsWhole) (a6 : Memref sig .tc .vmem S2048x512 .f32) (h6 : a6.IsWhole)
  (a7 : Memref sig .tc .vmem S1x32x2x32x32 .f32) (h7 : a7.IsWhole) (a8 : Memref sig .tc .vmem S1x1 .f32) (h8 : a8.IsWhole)
  (a9 : Memref sig .tc .vmem S1x1 .f32) (h9 : a9.IsWhole) (a10 : Memref sig .tc .vmem S1x512 .f32) (h10 : a10.IsWhole)
  (x0 : Vec F S1x32x2x32x32 .f32) (x1 : Vec F S512x32 .f32) (x2 : Vec F S512x1 .f32) (x3 : Vec F S32x512 .f32)
  (l : Vec F S1x1 .f32) (n : Vec F S1x512 .f32)

/-- The first point: the rows of codes. -/
theorem codes_A (hc0 : cond0_0 i) (hc1 : ¬cond0_1 i) :
    out0_A_4 c i a2 h2 a3 h3 a4 h4 a5 h5 a6 h6 a7 h7 a8 h8 a9 h9 a10 h10 hc0 hc1 x0 x1 x2 x3 = k0_pay2 (k0_pay11 x0 x1 x2) := by
  unfold out0_A_4
  rw [View.read_writes_eq_canon _ _ _ (cover0_A_4 c i a2 h2 a3 h3 a4 h4 a5 h5 a6 h6 a7 h7 a8 h8 a9 h9 a10 h10 hc0 hc1 x0 x1 x2 x3)]
  unfold kernelRun0_A
  dsimp only
  sl_unfold_words
  simp only [View.canon_cons_unit_zero (S := S2048x512) zero2, View.canon_cons_unit_zero (S := S1x32x2x32x32) zero5,
    View.canon_cons_unit_zero (S := S1x1) zero2, View.canon_cons_unit_zero (S := S1x512) zero2,
    View.readCov_unit_zero (S := S1x1) _ zero2, View.readCov_unit_zero (S := S1x512) _ zero2, View.readAt_eq_ld,
    h2.read_unread, h3.read_unread, h4.read_unread, h5.read_unread, h8.read_unread, h10.read_unread,
    View.ld_unit_zero (S := S1x32x2x32x32) zero5, View.ld_unit_zero (S := S512x32) zero2, View.ld_unit_zero (S := S512x1) zero2,
    View.ld_unit_zero (S := S32x512) zero2, View.ld_unit_zero (S := S1x1) zero2, View.ld_unit_zero (S := S1x512) zero2]

/-- The first point: the looked-up block. -/
theorem rows_A (hc0 : cond0_0 i) (hc1 : ¬cond0_1 i) :
    out0_A_5 c i a2 h2 a3 h3 a4 h4 a5 h5 a6 h6 a7 h7 a8 h8 a9 h9 a10 h10 hc0 hc1 x0 x1 x2 x3 = k0_pay1 (k0_pay12 x0 x1 x2 x3) := by
  unfold out0_A_5
  rw [View.read_writes_eq_canon _ _ _ (cover0_A_5 c i a2 h2 a3 h3 a4 h4 a5 h5 a6 h6 a7 h7 a8 h8 a9 h9 a10 h10 hc0 hc1 x0 x1 x2 x3)]
  unfold kernelRun0_A
  dsimp only
  sl_unfold_words
  simp only [View.canon_cons_unit_zero (S := S2048x512) zero2, View.canon_cons_unit_zero (S := S1x32x2x32x32) zero5,
    View.canon_cons_unit_zero (S := S1x1) zero2, View.canon_cons_unit_zero (S := S1x512) zero2,
    View.readCov_unit_zero (S := S1x1) _ zero2, View.readCov_unit_zero (S := S1x512) _ zero2, View.readAt_eq_ld,
    h2.read_unread, h3.read_unread, h4.read_unread, h5.read_unread, h8.read_unread, h10.read_unread,
    View.ld_unit_zero (S := S1x32x2x32x32) zero5, View.ld_unit_zero (S := S512x32) zero2, View.ld_unit_zero (S := S512x1) zero2,
    View.ld_unit_zero (S := S32x512) zero2, View.ld_unit_zero (S := S1x1) zero2, View.ld_unit_zero (S := S1x512) zero2]

/-- The first point: the loss. -/
theorem loss_A (hc0 : cond0_0 i) (hc1 : ¬cond0_1 i) :
    out0_A_6 c i a2 h2 a3 h3 a4 h4 a5 h5 a6 h6 a7 h7 a8 h8 a9 h9 a10 h10 hc0 hc1 x0 x1 x2 x3 = k0_pay3 (k0_pay10 x0 x1 x2) k0_pay7 := by
  unfold out0_A_6
  rw [View.read_writes_eq_canon _ _ _ (cover0_A_6 c i a2 h2 a3 h3 a4 h4 a5 h5 a6 h6 a7 h7 a8 h8 a9 h9 a10 h10 hc0 hc1 x0 x1 x2 x3)]
  unfold kernelRun0_A
  dsimp only
  sl_unfold_words
  simp only [View.canon_cons_unit_zero (S := S2048x512) zero2, View.canon_cons_unit_zero (S := S1x32x2x32x32) zero5,
    View.canon_cons_unit_zero (S := S1x1) zero2, View.canon_cons_unit_zero (S := S1x512) zero2,
    View.readCov_unit_zero (S := S1x1) _ zero2, View.readCov_unit_zero (S := S1x512) _ zero2, View.readAt_eq_ld,
    h2.read_unread, h3.read_unread, h4.read_unread, h5.read_unread, h8.read_unread, h10.read_unread,
    View.ld_unit_zero (S := S1x32x2x32x32) zero5, View.ld_unit_zero (S := S512x32) zero2, View.ld_unit_zero (S := S512x1) zero2,
    View.ld_unit_zero (S := S32x512) zero2, View.ld_unit_zero (S := S1x1) zero2, View.ld_unit_zero (S := S1x512) zero2]

/-- The first point: the counts. -/
theorem count_A (hc0 : cond0_0 i) (hc1 : ¬cond0_1 i) :
    sout0_A_0 c i a2 h2 a3 h3 a4 h4 a5 h5 a6 h6 a7 h7 a8 h8 a9 h9 a10 h10 hc0 hc1 x0 x1 x2 x3 = k0_pay4 (k0_pay11 x0 x1 x2) k0_pay8 := by
  unfold sout0_A_0
  rw [View.read_writes_eq_canon _ _ _ (scover0_A_0 c i a2 h2 a3 h3 a4 h4 a5 h5 a6 h6 a7 h7 a8 h8 a9 h9 a10 h10 hc0 hc1 x0 x1 x2 x3)]
  unfold kernelRun0_A
  dsimp only
  sl_unfold_words
  simp only [View.canon_cons_unit_zero (S := S2048x512) zero2, View.canon_cons_unit_zero (S := S1x32x2x32x32) zero5,
    View.canon_cons_unit_zero (S := S1x1) zero2, View.canon_cons_unit_zero (S := S1x512) zero2,
    View.readCov_unit_zero (S := S1x1) _ zero2, View.readCov_unit_zero (S := S1x512) _ zero2, View.readAt_eq_ld,
    h2.read_unread, h3.read_unread, h4.read_unread, h5.read_unread, h8.read_unread, h10.read_unread,
    View.ld_unit_zero (S := S1x32x2x32x32) zero5, View.ld_unit_zero (S := S512x32) zero2, View.ld_unit_zero (S := S512x1) zero2,
    View.ld_unit_zero (S := S32x512) zero2, View.ld_unit_zero (S := S1x1) zero2, View.ld_unit_zero (S := S1x512) zero2]

/-- The middle point: the rows of codes. -/
theorem codes_B (hc0 : ¬cond0_0 i) (hc1 : ¬cond0_1 i) :
    out0_B_4 c i a2 h2 a3 h3 a4 h4 a5 h5 a6 h6 a7 h7 a8 h8 a9 h9 a10 h10 hc0 hc1 x0 x1 x2 x3 l n = k0_pay2 (k0_pay11 x0 x1 x2) := by
  unfold out0_B_4
  rw [View.read_writes_eq_canon _ _ _ (cover0_B_4 c i a2 h2 a3 h3 a4 h4 a5 h5 a6 h6 a7 h7 a8 h8 a9 h9 a10 h10 hc0 hc1 x0 x1 x2 x3 l n)]
  unfold kernelRun0_B
  dsimp only
  sl_unfold_words
  simp only [View.canon_cons_unit_zero (S := S2048x512) zero2, View.canon_cons_unit_zero (S := S1x32x2x32x32) zero5,
    View.canon_cons_unit_zero (S := S1x1) zero2, View.canon_cons_unit_zero (S := S1x512) zero2,
    View.readCov_unit_zero (S := S1x1) _ zero2, View.readCov_unit_zero (S := S1x512) _ zero2, View.readAt_eq_ld,
    h2.read_unread, h3.read_unread, h4.read_unread, h5.read_unread, h8.read_unread, h10.read_unread,
    View.ld_unit_zero (S := S1x32x2x32x32) zero5, View.ld_unit_zero (S := S512x32) zero2, View.ld_unit_zero (S := S512x1) zero2,
    View.ld_unit_zero (S := S32x512) zero2, View.ld_unit_zero (S := S1x1) zero2, View.ld_unit_zero (S := S1x512) zero2]

/-- The middle point: the looked-up block. -/
theorem rows_B (hc0 : ¬cond0_0 i) (hc1 : ¬cond0_1 i) :
    out0_B_5 c i a2 h2 a3 h3 a4 h4 a5 h5 a6 h6 a7 h7 a8 h8 a9 h9 a10 h10 hc0 hc1 x0 x1 x2 x3 l n = k0_pay1 (k0_pay12 x0 x1 x2 x3) := by
  unfold out0_B_5
  rw [View.read_writes_eq_canon _ _ _ (cover0_B_5 c i a2 h2 a3 h3 a4 h4 a5 h5 a6 h6 a7 h7 a8 h8 a9 h9 a10 h10 hc0 hc1 x0 x1 x2 x3 l n)]
  unfold kernelRun0_B
  dsimp only
  sl_unfold_words
  simp only [View.canon_cons_unit_zero (S := S2048x512) zero2, View.canon_cons_unit_zero (S := S1x32x2x32x32) zero5,
    View.canon_cons_unit_zero (S := S1x1) zero2, View.canon_cons_unit_zero (S := S1x512) zero2,
    View.readCov_unit_zero (S := S1x1) _ zero2, View.readCov_unit_zero (S := S1x512) _ zero2, View.readAt_eq_ld,
    h2.read_unread, h3.read_unread, h4.read_unread, h5.read_unread, h8.read_unread, h10.read_unread,
    View.ld_unit_zero (S := S1x32x2x32x32) zero5, View.ld_unit_zero (S := S512x32) zero2, View.ld_unit_zero (S := S512x1) zero2,
    View.ld_unit_zero (S := S32x512) zero2, View.ld_unit_zero (S := S1x1) zero2, View.ld_unit_zero (S := S1x512) zero2]

/-- The middle point: the loss. -/
theorem loss_B (hc0 : ¬cond0_0 i) (hc1 : ¬cond0_1 i) :
    out0_B_6 c i a2 h2 a3 h3 a4 h4 a5 h5 a6 h6 a7 h7 a8 h8 a9 h9 a10 h10 hc0 hc1 x0 x1 x2 x3 l n = k0_pay3 (k0_pay10 x0 x1 x2) l := by
  unfold out0_B_6
  rw [View.read_writes_eq_canon _ _ _ (cover0_B_6 c i a2 h2 a3 h3 a4 h4 a5 h5 a6 h6 a7 h7 a8 h8 a9 h9 a10 h10 hc0 hc1 x0 x1 x2 x3 l n)]
  unfold kernelRun0_B
  dsimp only
  sl_unfold_words
  simp only [View.canon_cons_unit_zero (S := S2048x512) zero2, View.canon_cons_unit_zero (S := S1x32x2x32x32) zero5,
    View.canon_cons_unit_zero (S := S1x1) zero2, View.canon_cons_unit_zero (S := S1x512) zero2,
    View.readCov_unit_zero (S := S1x1) _ zero2, View.readCov_unit_zero (S := S1x512) _ zero2, View.readAt_eq_ld,
    h2.read_unread, h3.read_unread, h4.read_unread, h5.read_unread, h8.read_unread, h10.read_unread,
    View.ld_unit_zero (S := S1x32x2x32x32) zero5, View.ld_unit_zero (S := S512x32) zero2, View.ld_unit_zero (S := S512x1) zero2,
    View.ld_unit_zero (S := S32x512) zero2, View.ld_unit_zero (S := S1x1) zero2, View.ld_unit_zero (S := S1x512) zero2]

/-- The middle point: the counts. -/
theorem count_B (hc0 : ¬cond0_0 i) (hc1 : ¬cond0_1 i) :
    sout0_B_0 c i a2 h2 a3 h3 a4 h4 a5 h5 a6 h6 a7 h7 a8 h8 a9 h9 a10 h10 hc0 hc1 x0 x1 x2 x3 l n = k0_pay4 (k0_pay11 x0 x1 x2) n := by
  unfold sout0_B_0
  rw [View.read_writes_eq_canon _ _ _ (scover0_B_0 c i a2 h2 a3 h3 a4 h4 a5 h5 a6 h6 a7 h7 a8 h8 a9 h9 a10 h10 hc0 hc1 x0 x1 x2 x3 l n)]
  unfold kernelRun0_B
  dsimp only
  sl_unfold_words
  simp only [View.canon_cons_unit_zero (S := S2048x512) zero2, View.canon_cons_unit_zero (S := S1x32x2x32x32) zero5,
    View.canon_cons_unit_zero (S := S1x1) zero2, View.canon_cons_unit_zero (S := S1x512) zero2,
    View.readCov_unit_zero (S := S1x1) _ zero2, View.readCov_unit_zero (S := S1x512) _ zero2, View.readAt_eq_ld,
    h2.read_unread, h3.read_unread, h4.read_unread, h5.read_unread, h8.read_unread, h10.read_unread,
    View.ld_unit_zero (S := S1x32x2x32x32) zero5, View.ld_unit_zero (S := S512x32) zero2, View.ld_unit_zero (S := S512x1) zero2,
    View.ld_unit_zero (S := S32x512) zero2, View.ld_unit_zero (S := S1x1) zero2, View.ld_unit_zero (S := S1x512) zero2]

/-- The last point: the rows of codes. -/
theorem codes_C (hc0 : ¬cond0_0 i) (hc1 : cond0_1 i) :
    out0_C_4 c i a2 h2 a3 h3 a4 h4 a5 h5 a6 h6 a7 h7 a8 h8 a9 h9 a10 h10 hc0 hc1 x0 x1 x2 x3 l n = k0_pay2 (k0_pay11 x0 x1 x2) := by
  unfold out0_C_4
  rw [View.read_writes_eq_canon _ _ _ (cover0_C_4 c i a2 h2 a3 h3 a4 h4 a5 h5 a6 h6 a7 h7 a8 h8 a9 h9 a10 h10 hc0 hc1 x0 x1 x2 x3 l n)]
  unfold kernelRun0_C
  dsimp only
  sl_unfold_words
  simp only [View.canon_cons_unit_zero (S := S2048x512) zero2, View.canon_cons_unit_zero (S := S1x32x2x32x32) zero5,
    View.canon_cons_unit_zero (S := S1x1) zero2, View.canon_cons_unit_zero (S := S1x512) zero2,
    View.readCov_unit_zero (S := S1x1) _ zero2, View.readCov_unit_zero (S := S1x512) _ zero2, View.readAt_eq_ld,
    h2.read_unread, h3.read_unread, h4.read_unread, h5.read_unread, h8.read_unread, h10.read_unread,
    View.ld_unit_zero (S := S1x32x2x32x32) zero5, View.ld_unit_zero (S := S512x32) zero2, View.ld_unit_zero (S := S512x1) zero2,
    View.ld_unit_zero (S := S32x512) zero2, View.ld_unit_zero (S := S1x1) zero2, View.ld_unit_zero (S := S1x512) zero2]

/-- The last point: the looked-up block. -/
theorem rows_C (hc0 : ¬cond0_0 i) (hc1 : cond0_1 i) :
    out0_C_5 c i a2 h2 a3 h3 a4 h4 a5 h5 a6 h6 a7 h7 a8 h8 a9 h9 a10 h10 hc0 hc1 x0 x1 x2 x3 l n = k0_pay1 (k0_pay12 x0 x1 x2 x3) := by
  unfold out0_C_5
  rw [View.read_writes_eq_canon _ _ _ (cover0_C_5 c i a2 h2 a3 h3 a4 h4 a5 h5 a6 h6 a7 h7 a8 h8 a9 h9 a10 h10 hc0 hc1 x0 x1 x2 x3 l n)]
  unfold kernelRun0_C
  dsimp only
  sl_unfold_words
  simp only [View.canon_cons_unit_zero (S := S2048x512) zero2, View.canon_cons_unit_zero (S := S1x32x2x32x32) zero5,
    View.canon_cons_unit_zero (S := S1x1) zero2, View.canon_cons_unit_zero (S := S1x512) zero2,
    View.readCov_unit_zero (S := S1x1) _ zero2, View.readCov_unit_zero (S := S1x512) _ zero2, View.readAt_eq_ld,
    h2.read_unread, h3.read_unread, h4.read_unread, h5.read_unread, h8.read_unread, h10.read_unread,
    View.ld_unit_zero (S := S1x32x2x32x32) zero5, View.ld_unit_zero (S := S512x32) zero2, View.ld_unit_zero (S := S512x1) zero2,
    View.ld_unit_zero (S := S32x512) zero2, View.ld_unit_zero (S := S1x1) zero2, View.ld_unit_zero (S := S1x512) zero2]

/-- The last point: the loss. -/
theorem loss_C (hc0 : ¬cond0_0 i) (hc1 : cond0_1 i) :
    out0_C_6 c i a2 h2 a3 h3 a4 h4 a5 h5 a6 h6 a7 h7 a8 h8 a9 h9 a10 h10 hc0 hc1 x0 x1 x2 x3 l n = k0_pay5 (k0_pay3 (k0_pay10 x0 x1 x2) l) := by
  unfold out0_C_6
  rw [View.read_writes_eq_canon _ _ _ (cover0_C_6 c i a2 h2 a3 h3 a4 h4 a5 h5 a6 h6 a7 h7 a8 h8 a9 h9 a10 h10 hc0 hc1 x0 x1 x2 x3 l n)]
  unfold kernelRun0_C
  dsimp only
  sl_unfold_words
  simp only [View.canon_cons_unit_zero (S := S2048x512) zero2, View.canon_cons_unit_zero (S := S1x32x2x32x32) zero5,
    View.canon_cons_unit_zero (S := S1x1) zero2, View.canon_cons_unit_zero (S := S1x512) zero2,
    View.readCov_unit_zero (S := S1x1) _ zero2, View.readCov_unit_zero (S := S1x512) _ zero2, View.readAt_eq_ld,
    h2.read_unread, h3.read_unread, h4.read_unread, h5.read_unread, h8.read_unread, h10.read_unread,
    View.ld_unit_zero (S := S1x32x2x32x32) zero5, View.ld_unit_zero (S := S512x32) zero2, View.ld_unit_zero (S := S512x1) zero2,
    View.ld_unit_zero (S := S32x512) zero2, View.ld_unit_zero (S := S1x1) zero2, View.ld_unit_zero (S := S1x512) zero2]

/-- The last point: the perplexity. -/
theorem perp_C (hc0 : ¬cond0_0 i) (hc1 : cond0_1 i) :
    out0_C_7 c i a2 h2 a3 h3 a4 h4 a5 h5 a6 h6 a7 h7 a8 h8 a9 h9 a10 h10 hc0 hc1 x0 x1 x2 x3 l n = k0_pay6 (k0_pay4 (k0_pay11 x0 x1 x2) n) := by
  unfold out0_C_7
  rw [View.read_writes_eq_canon _ _ _ (cover0_C_7 c i a2 h2 a3 h3 a4 h4 a5 h5 a6 h6 a7 h7 a8 h8 a9 h9 a10 h10 hc0 hc1 x0 x1 x2 x3 l n)]
  unfold kernelRun0_C
  dsimp only
  sl_unfold_words
  simp only [View.canon_cons_unit_zero (S := S2048x512) zero2, View.canon_cons_unit_zero (S := S1x32x2x32x32) zero5,
    View.canon_cons_unit_zero (S := S1x1) zero2, View.canon_cons_unit_zero (S := S1x512) zero2,
    View.readCov_unit_zero (S := S1x1) _ zero2, View.readCov_unit_zero (S := S1x512) _ zero2, View.readAt_eq_ld,
    h2.read_unread, h3.read_unread, h4.read_unread, h5.read_unread, h8.read_unread, h10.read_unread,
    View.ld_unit_zero (S := S1x32x2x32x32) zero5, View.ld_unit_zero (S := S512x32) zero2, View.ld_unit_zero (S := S512x1) zero2,
    View.ld_unit_zero (S := S32x512) zero2, View.ld_unit_zero (S := S1x1) zero2, View.ld_unit_zero (S := S1x512) zero2]

end Point

end Cert.Kern

end
-- ==== Proof.Nearest.lean ====
/- The mathematics both programs compute, over the real numbers: tokens, squared distances, the first nearest code, and the
   two ways of finding that code — an argmin fold over (value, index) pairs, and a minimum followed by the least index that
   attains it. -/
module

public import Idealize.ShloMosaic.PureOps.Ideal.Laws
public import Idealize.ShloMosaic.PureOps.Reduce
public import Idealize.ShloMosaic.Lib.Pointwise

@[expose] public section

set_option maxRecDepth 16384

noncomputable section

namespace Cert.VQ

open Idealize.ShloMosaic

/-! ## The first smallest entry -/

/-- `k` is the first index at which `d` is smallest. -/
def IsFirst (d : Fin 512 → ℝ) (k : Fin 512) : Prop := (∀ j, d k ≤ d j) ∧ ∀ j, j < k → d k < d j

/-- There is at most one first smallest index. -/
theorem IsFirst.unique {d : Fin 512 → ℝ} {k l : Fin 512} (hk : IsFirst d k) (hl : IsFirst d l) : k = l := by
  rcases lt_trichotomy k l with h | h | h
  · exact absurd (hk.1 l) (not_le.2 (hl.2 k h))
  · exact h
  · exact absurd (hl.1 k) (not_le.2 (hk.2 l h))

/-- There is a first smallest index. -/
theorem exists_isFirst (d : Fin 512 → ℝ) : ∃ k, IsFirst d k := by
  classical
  have hne : (Finset.univ.filter fun k => ∀ j, d k ≤ d j).Nonempty := by
    obtain ⟨k, -, hk⟩ := Finset.exists_min_image Finset.univ d Finset.univ_nonempty
    exact ⟨k, by simpa using hk⟩
  have hmin := (Finset.mem_filter.1 (Finset.min'_mem _ hne)).2
  refine ⟨Finset.min' _ hne, hmin, fun j hj => ?_⟩
  by_contra hcon
  have hj' : j ∈ Finset.univ.filter fun k => ∀ j, d k ≤ d j :=
    Finset.mem_filter.2 ⟨Finset.mem_univ _, fun i => (not_lt.1 hcon).trans (hmin i)⟩
  exact absurd (Finset.min'_le _ j hj') (not_le.2 hj)

/-- The first index at which `d` is smallest. -/
def first (d : Fin 512 → ℝ) : Fin 512 := (exists_isFirst d).choose

/-- `first d` is the first smallest index. -/
theorem first_spec (d : Fin 512 → ℝ) : IsFirst d (first d) := (exists_isFirst d).choose_spec

/-! ## Minimum, then least index attaining it -/

/-- A fold of `min` is the smallest entry, whatever upper bound it starts from. -/
theorem fold_min_eq (g : Fin 512 → EReal) (b : EReal) (k : Fin 512) (hb : g k ≤ b) (h : ∀ j, g k ≤ g j) :
    (Finset.univ : Finset (Fin 512)).fold min b g = g k :=
  le_antisymm ((Finset.fold_min_le _).2 (Or.inr ⟨k, Finset.mem_univ k, le_rfl⟩))
    ((Finset.le_fold_min _).2 ⟨hb, fun j _ => h j⟩)

/-- The fold of `min` over the entries of `d` is its entry at the first smallest index. -/
theorem fold_min_first (d : Fin 512 → ℝ) :
    (Finset.univ : Finset (Fin 512)).fold min ⊤ (fun k => ((d k : ℝ) : EReal)) = ((d (first d) : ℝ) : EReal) :=
  fold_min_eq _ _ (first d) le_top fun j => EReal.coe_le_coe_iff.2 ((first_spec d).1 j)

/-- The fold of `min` over the indices that attain the smallest entry (512 standing for the others) is the first. -/
theorem fold_min_index (d : Fin 512 → ℝ) :
    (Finset.univ : Finset (Fin 512)).fold min ⊤
        (fun k => if ((d k : ℝ) : EReal) = ((d (first d) : ℝ) : EReal) then (((k.val : ℤ) : ℝ) : EReal) else ((512 : ℝ) : EReal))
      = ((((first d).val : ℤ) : ℝ) : EReal) := by
  refine (fold_min_eq _ _ (first d) le_top fun j => ?_).trans (if_pos rfl)
  rw [if_pos rfl]
  split_ifs with hj
  · refine EReal.coe_le_coe_iff.2 ?_
    have : first d ≤ j := by
      by_contra hcon
      exact absurd (EReal.coe_eq_coe_iff.1 hj) (ne_of_gt ((first_spec d).2 j (not_le.1 hcon)))
    exact_mod_cast this
  · refine EReal.coe_le_coe_iff.2 ?_
    exact_mod_cast (first d).isLt.le

/-! ## The argmin fold -/

/-- The step of an argmin over (value, index) pairs: keep the pair of smaller value, of two equal the smaller index. -/
def step (a b : EReal × BitVec 32) : EReal × BitVec 32 :=
  (if a.1 < b.1 then a.1 else b.1, if a.1 < b.1 ∨ (a.1 = b.1 ∧ a.2.slt b.2 = true) then a.2 else b.2)

/-- The pair of entry `k`. -/
def pair (d : Fin 512 → ℝ) (k : Fin 512) : EReal × BitVec 32 := (((d k : ℝ) : EReal), BitVec.ofNat 32 k.val)

/-- Indices below 512 compare as words the way they compare as numbers. -/
theorem slt_ofNat (a b : Fin 512) : (BitVec.ofNat 32 a.val).slt (BitVec.ofNat 32 b.val) = decide (a < b) := by
  have ha := a.isLt
  have hb := b.isLt
  rw [BitVec.slt_eq_decide, BitVec.toInt_eq_toNat_of_lt (by simp; omega), BitVec.toInt_eq_toNat_of_lt (by simp; omega)]
  simp only [BitVec.toNat_ofNat]
  congr 1
  rw [Nat.mod_eq_of_lt (by omega), Nat.mod_eq_of_lt (by omega)]
  exact propext ⟨fun h => Fin.lt_def.2 (by exact_mod_cast h), fun h => by exact_mod_cast Fin.lt_def.1 h⟩

/-- Of two pairs in index order the step keeps the first, unless the second has a smaller value. -/
theorem step_pair (d : Fin 512 → ℝ) {a b : Fin 512} (hab : a < b) :
    step (pair d a) (pair d b) = if d b < d a then pair d b else pair d a := by
  unfold step pair
  simp only [EReal.coe_lt_coe_iff, EReal.coe_eq_coe_iff, slt_ofNat, hab, decide_true, and_true]
  rcases lt_trichotomy (d a) (d b) with h | h | h
  · simp [h, not_lt.2 h.le]
  · simp [h]
  · simp [h, not_lt.2 h.le, ne_of_gt h]

/-- From the greatest value and index 0 the step takes the first pair. -/
theorem step_start (d : Fin 512 → ℝ) : step (⊤, 0#32) (pair d 0) = pair d 0 := by
  unfold step pair
  simp [EReal.coe_ne_top]

/-- Folded over an increasing list the step leaves the pair of the list's first smallest entry. -/
theorem foldl_step (d : Fin 512 → ℝ) : ∀ (l : List (Fin 512)) (a : Fin 512), (∀ b ∈ l, a < b) → l.Pairwise (· < ·) →
    ∃ k, (k = a ∨ k ∈ l) ∧ (l.map (pair d)).foldl step (pair d a) = pair d k
      ∧ (∀ b, b = a ∨ b ∈ l → d k ≤ d b) ∧ ∀ b, b = a ∨ b ∈ l → b < k → d k < d b := by
  intro l
  induction l with
  | nil =>
    intro a _ _
    refine ⟨a, Or.inl rfl, rfl, ?_, ?_⟩
    · rintro b (rfl | h)
      · exact le_rfl
      · exact absurd h List.not_mem_nil
    · rintro b (rfl | h) hlt
      · exact absurd hlt (lt_irrefl _)
      · exact absurd h List.not_mem_nil
  | cons c l ih =>
    intro a ha hl
    have hac : a < c := ha c List.mem_cons_self
    rw [List.pairwise_cons] at hl
    rw [List.map_cons, List.foldl_cons, step_pair d hac]
    by_cases hd : d c < d a
    · rw [if_pos hd]
      obtain ⟨k, hk, hf, hle, hlt⟩ := ih c hl.1 hl.2
      refine ⟨k, Or.inr (List.mem_cons.2 hk), hf, ?_, ?_⟩
      · rintro b (rfl | hb)
        · exact (hle c (Or.inl rfl)).trans hd.le
        · exact hle b (List.mem_cons.1 hb)
      · rintro b (rfl | hb) hbk
        · exact (hle c (Or.inl rfl)).trans_lt hd
        · exact hlt b (List.mem_cons.1 hb) hbk
    · rw [if_neg hd]
      obtain ⟨k, hk, hf, hle, hlt⟩ := ih a (fun b hb => ha b (List.mem_cons_of_mem _ hb)) hl.2
      refine ⟨k, hk.imp_right (List.mem_cons_of_mem _), hf, ?_, ?_⟩
      · rintro b (rfl | hb)
        · exact hle b (Or.inl rfl)
        · rcases List.mem_cons.1 hb with rfl | hb
          · exact (hle a (Or.inl rfl)).trans (not_lt.1 hd)
          · exact hle b (Or.inr hb)
      · rintro b (rfl | hb) hbk
        · exact hlt b (Or.inl rfl) hbk
        · rcases List.mem_cons.1 hb with rfl | hb
          · exact (hlt a (Or.inl rfl) (hac.trans hbk)).trans_le (not_lt.1 hd)
          · exact hlt b (Or.inr hb) hbk

/-- The argmin fold over all 512 pairs, from the greatest value and index 0, leaves the pair of the first smallest entry. -/
theorem foldl_all (d : Fin 512 → ℝ) :
    (((List.finRange 512).map (pair d)).foldl step (⊤, 0#32)) = pair d (first d) := by
  have hcons : List.finRange 512 = 0 :: (List.finRange 511).map Fin.succ := List.finRange_succ
  have hp : (List.finRange 512).Pairwise (· < ·) := List.pairwise_lt_finRange 512
  have hmem : ∀ b : Fin 512, b = 0 ∨ b ∈ (List.finRange 511).map Fin.succ := fun b =>
    List.mem_cons.1 (hcons ▸ List.mem_finRange b)
  rw [hcons, List.pairwise_cons] at hp
  rw [hcons, List.map_cons, List.foldl_cons, step_start]
  obtain ⟨k, -, hf, hle, hlt⟩ := foldl_step d _ 0 hp.1 hp.2
  rw [hf]
  have hk : IsFirst d k := ⟨fun j => hle j (hmem j), fun j hj => hlt j (hmem j) hj⟩
  rw [hk.unique (first_spec d)]

/-! ## The list an argmin along the second axis folds over -/

/-- The row-major position of an entry of a matrix. -/
theorem rowMajor_ix2 {n0 n1 : ℕ} (a : Fin n0) (b : Fin n1) :
    ((⟨2, ![n0, n1]⟩ : Shape).rowMajor (ix2 a b)).val = a.val * n1 + b.val := by
  rw [Shape.rowMajor_val_succ]
  congr 1
  · congr 1
    show ∏ i : Fin 1, (![n0, n1] : Fin 2 → ℕ) i.succ = n1
    simp
  · exact Shape.rowMajor_val_one _

/-- Along row `j` of a matrix that list is the row's pairs, first to last. -/
theorem argReduceFiber_row {n0 n1 : ℕ} {t : Shape} {α β : Type} (x : (⟨2, ![n0, n1]⟩ : Shape).Idx → α)
    (y : (⟨2, ![n0, n1]⟩ : Shape).Idx → β) (h : (⟨2, ![n0, n1]⟩ : Shape).ReducesTo [1] t) (j : t.Idx) (r : Fin n0)
    (hr : ∀ i : (⟨2, ![n0, n1]⟩ : Shape).Idx, h.drop i = j ↔ ∃ k : Fin n1, ix2 r k = i) :
    Host.argReduceFiber x y h j = (List.finRange n1).map fun k => (x (ix2 r k), y (ix2 r k)) := by
  have hlist : ((List.finRange (⟨2, ![n0, n1]⟩ : Shape).numel).filter fun n => h.drop ((⟨2, ![n0, n1]⟩ : Shape).rowMajor.symm n) = j)
      = (List.finRange n1).map fun k => (⟨2, ![n0, n1]⟩ : Shape).rowMajor (ix2 r k) := by
    have h1 : ((List.finRange (⟨2, ![n0, n1]⟩ : Shape).numel).filter fun n =>
        h.drop ((⟨2, ![n0, n1]⟩ : Shape).rowMajor.symm n) = j).Pairwise (· < ·) :=
      (List.pairwise_lt_finRange _).filter _
    have h2 : ((List.finRange n1).map fun k => (⟨2, ![n0, n1]⟩ : Shape).rowMajor (ix2 r k)).Pairwise (· < ·) := by
      rw [List.pairwise_map]
      refine (List.pairwise_lt_finRange n1).imp fun {a b} hab => ?_
      rw [Fin.lt_def, rowMajor_ix2, rowMajor_ix2]
      exact Nat.add_lt_add_left hab _
    refine List.Perm.eq_of_pairwise' (r := (· < ·)) h1 h2 ((List.perm_ext_iff_of_nodup (h1.imp ne_of_lt) (h2.imp ne_of_lt)).2 fun n => ?_)
    simp only [List.mem_filter, List.mem_finRange, true_and, decide_eq_true_eq, List.mem_map, hr]
    exact exists_congr fun k => by rw [Equiv.eq_symm_apply]
  unfold Host.argReduceFiber
  rw [hlist, List.map_map]
  exact List.map_congr_left fun k _ => by simp only [Function.comp, Equiv.symm_apply_apply]

/-! ## Tokens and distances -/

/-- Token `n`, channel `c`, of the input: the position is `n` in row-major order of (batch, depth, height, width). -/
def token (X : Fin 2 → Fin 32 → Fin 32 → Fin 32 → Fin 32 → ℝ) (n : Fin 65536) (c : Fin 32) : ℝ :=
  X ⟨n.val / 32768, by omega⟩ c ⟨n.val / 1024 % 32, by omega⟩ ⟨n.val / 32 % 32, by omega⟩ ⟨n.val % 32, by omega⟩

/-- The row-major position of (batch, depth, height, width). -/
def position (b : Fin 2) (d h v : Fin 32) : Fin 65536 := ⟨((b.val * 32 + d.val) * 32 + h.val) * 32 + v.val, by omega⟩

theorem token_position (X : Fin 2 → Fin 32 → Fin 32 → Fin 32 → Fin 32 → ℝ) (b : Fin 2) (d h v c : Fin 32) :
    token X (position b d h v) c = X b c d h v := by
  unfold token position
  congr 1 <;> (try ext) <;> simp only <;> omega

/-- A sum over a product's worth of numbers, row by row. -/
theorem sum_rows {M : Type*} [AddCommMonoid M] {N m n : Nat} (hN : N = m * n) (f : Fin N → M) (g : Fin m → Fin n → M)
    (hg : ∀ a b, ∀ i : Fin N, i.val = a.val * n + b.val → f i = g a b) : ∑ i, f i = ∑ a, ∑ b, g a b := by
  subst hN
  rw [← Equiv.sum_comp finProdFinEquiv, Fintype.sum_prod_type]
  refine Finset.sum_congr rfl fun a _ => Finset.sum_congr rfl fun b _ => hg a b _ ?_
  show b.val + n * a.val = _
  rw [Nat.mul_comm, Nat.add_comm]

/-- A sum over all positions, axis by axis. -/
theorem sum_position {M : Type*} [AddCommMonoid M] (f : Fin 65536 → M) : ∑ n, f n = ∑ b, ∑ d, ∑ h, ∑ v, f (position b d h v) := by
  rw [sum_rows (m := 2) (n := 32768) rfl f (fun b i => f ⟨b.val * 32768 + i.val, by omega⟩) (fun a b i h => congrArg f (Fin.ext h))]
  refine Finset.sum_congr rfl fun b _ => ?_
  rw [sum_rows (m := 32) (n := 1024) rfl _ (fun d i => f ⟨b.val * 32768 + d.val * 1024 + i.val, by omega⟩)
    (fun a c i h => congrArg f (Fin.ext (by simp only; omega)))]
  refine Finset.sum_congr rfl fun d _ => ?_
  rw [sum_rows (m := 32) (n := 32) rfl _ (fun h i => f ⟨b.val * 32768 + d.val * 1024 + h.val * 32 + i.val, by omega⟩)
    (fun a c i h => congrArg f (Fin.ext (by simp only; omega)))]
  refine Finset.sum_congr rfl fun h _ => Finset.sum_congr rfl fun v _ => congrArg f (Fin.ext ?_)
  unfold position
  simp only
  omega

/-- The squared distance of a token to a code. -/
def sqDist (x : Fin 32 → ℝ) (w : Fin 32 → ℝ) : ℝ := ∑ c, (w c - x c) ^ 2

/-- The squared distance expanded: the two squared norms less twice the inner product. -/
theorem sqDist_eq (x w : Fin 32 → ℝ) : sqDist x w = (∑ c, x c * x c + ∑ c, w c * w c) - 2 * ∑ c, x c * w c := by
  unfold sqDist
  rw [Finset.mul_sum, ← Finset.sum_add_distrib, ← Finset.sum_sub_distrib]
  exact Finset.sum_congr rfl fun c _ => by ring

/-- The first nearest code of a token. -/
def code (X : Fin 2 → Fin 32 → Fin 32 → Fin 32 → Fin 32 → ℝ) (W : Fin 512 → Fin 32 → ℝ) (n : Fin 65536) : Fin 512 :=
  first fun k => sqDist (token X n) (W k)

/-- A finite sum of real numbers is the same in the extended reals. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

end Cert.VQ

end
-- ==== Proof.Block.lean ====
/- The kernel's values for one block of tokens, at the ideal values, on real inputs. -/
module

public import proofs.«01_k».proof.Proof.Gen.KernelIdeal.Skeleton
public import proofs.«01_k».proof.Proof.Nearest
public import Idealize.ShloMosaic.Lib.Pipeline.Value
public import Idealize.ShloMosaic.Lib.ValueIdx

@[expose] public section

set_option maxRecDepth 16384

noncomputable section

namespace Cert.Kern

open Idealize.ShloMosaic Cert.KernelIdeal Cert.KernelIdeal.Gen Cert.VQ

/-- The column of a block's position. -/
def column (d : Fin 2) (h v : Fin 32) : Fin 2048 := ⟨d.val * 1024 + h.val * 32 + v.val, by omega⟩

theorem pay1_apply (q : FVec Ideal S32x2048 .f32) (c : Fin 32) (d : Fin 2) (h v : Fin 32) :
    k0_pay1 (F := Ideal) q (ix5 (0 : Fin 1) c d h v) = q (ix2 c (column d h v)) := by
  unfold k0_pay1
  pointwise
  rfl

theorem pay2_apply (q : FVec Ideal S512x2048 .f32) (s : Fin 2048) (k : Fin 512) : k0_pay2 (F := Ideal) q (ix2 s k) = q (ix2 k s) := by
  unfold k0_pay2
  pointwise

theorem pay3_apply (p : FVec Ideal S1x2048 .f32) (l : FVec Ideal S1x1 .f32) :
    k0_pay3 (F := Ideal) p l (ix2 (0 : Fin 1) (0 : Fin 1)) = l (ix2 (0 : Fin 1) (0 : Fin 1)) + ∑ s : Fin 2048, p (ix2 (0 : Fin 1) s) := by
  unfold k0_pay3
  pointwise
  rw [Fin.sum_univ_one]

theorem pay4_apply (q : FVec Ideal S512x2048 .f32) (n : FVec Ideal S1x512 .f32) (k : Fin 512) :
    k0_pay4 (F := Ideal) q n (ix2 (0 : Fin 1) k) = n (ix2 (0 : Fin 1) k) + ∑ s : Fin 2048, q (ix2 k s) := by
  unfold k0_pay4
  pointwise
  exact congrArg _ (Finset.sum_congr rfl fun s _ => pay2_apply q s k)

theorem pay5_apply (l : FVec Ideal S1x1 .f32) :
    k0_pay5 (F := Ideal) l (ix2 (0 : Fin 1) (0 : Fin 1)) = Ideal.div (((5 / 4 : ℝ) : EReal) * l (ix2 (0 : Fin 1) (0 : Fin 1))) ((2097152 : ℝ) : EReal) := by
  have h1 : Ideal.ofBits FTy.f32 1241513984#32 = ((2097152 : ℝ) : EReal) := by
    simp [Ideal.ofBits, Ideal.ieee, -EReal.coe_mul]; norm_num
  have h2 : Ideal.ofBits FTy.f32 1067450368#32 = ((5 / 4 : ℝ) : EReal) := by
    simp [Ideal.ofBits, Ideal.ieee, -EReal.coe_mul]; norm_num
  unfold k0_pay5
  pointwise
  rw [h1, h2]

theorem pay6_apply (n : FVec Ideal S1x512 .f32) :
    k0_pay6 (F := Ideal) n (ix2 (0 : Fin 1) (0 : Fin 1)) = Ideal.exp (-∑ k : Fin 512, Ideal.div (n (ix2 (0 : Fin 1) k)) (Ideal.ofBits .f32 0x47800000#32)
      * Ideal.log (Ideal.div (n (ix2 (0 : Fin 1) k)) (Ideal.ofBits .f32 0x47800000#32) + Ideal.ofBits .f32 0x2EDBE6FF#32)) := by
  unfold k0_pay6
  pointwise
  rw [Fin.sum_univ_one, zero_sub]
  rfl

theorem pay7_apply : k0_pay7 (F := Ideal) (ix2 (0 : Fin 1) (0 : Fin 1)) = 0 := by
  unfold k0_pay7
  pointwise

theorem pay8_apply (k : Fin 512) : k0_pay8 (F := Ideal) (ix2 (0 : Fin 1) k) = 0 := by
  unfold k0_pay8
  pointwise

/-- The infinite word. -/
theorem inf_word : Ideal.ofBits .f32 0x7F800000#32 = (⊤ : EReal) := by
  simp [Ideal.ofBits, Ideal.ieee]

/-- The word above every index. -/
theorem top_index : Ideal.ofBits .f32 0x44000000#32 = ((512 : ℝ) : EReal) := by
  simp [Ideal.ofBits, Ideal.ieee, -EReal.coe_mul]; norm_num

/-- An index's word as a number. -/
theorem index_word (k : Fin 512) : FloatOps.sitofp (F := Ideal) .f32 (BitVec.ofNat 32 k.val) = (((k.val : ℤ) : ℝ) : EReal) := by
  have hk := k.isLt
  have hi : (BitVec.ofNat 32 k.val).toInt = (k.val : ℤ) := by
    rw [BitVec.toInt_eq_toNat_cond, BitVec.toNat_ofNat, Nat.mod_eq_of_lt (by omega), if_pos (by omega)]
  show (((BitVec.ofNat 32 k.val).toInt : ℝ) : EReal) = _
  rw [hi]

/-- A flag as a number. -/
theorem flag_word (p : Prop) [Decidable p] :
    FloatOps.sitofp (F := Ideal) .f32 (BitVec.setWidth 32 (BitVec.ofBool (decide p))) = if p then (1 : EReal) else 0 := by
  show (((BitVec.setWidth 32 (BitVec.ofBool (decide p))).toInt : ℝ) : EReal) = _
  by_cases h : p
  · rw [if_pos h, decide_eq_true h]
    have : (BitVec.setWidth 32 (BitVec.ofBool true)).toInt = 1 := by decide
    rw [this]
    simp
  · rw [if_neg h, decide_eq_false h]
    have : (BitVec.setWidth 32 (BitVec.ofBool false)).toInt = 0 := by decide
    rw [this]
    simp

section Values
variable (x : FVec Ideal S1x32x2x32x32 .f32) (w2 : FVec Ideal S512x32 .f32) (wn : FVec Ideal S512x1 .f32) (wt : FVec Ideal S32x512 .f32)

variable (T : Fin 2048 → Fin 32 → ℝ) (W : Fin 512 → Fin 32 → ℝ)
  (hx : ∀ c d h v, x (ix5 (0 : Fin 1) c d h v) = ((T (column d h v) c : ℝ) : EReal))
  (h2 : ∀ k c, w2 (ix2 k c) = ((-2 * W k c : ℝ) : EReal))
  (hn : ∀ k, wn (ix2 k (0 : Fin 1)) = ((∑ c, W k c * W k c : ℝ) : EReal))
  (ht : ∀ c k, wt (ix2 c k) = ((W k c : ℝ) : EReal))

/-- The first nearest code of a column. -/
abbrev near (s : Fin 2048) : Fin 512 := first fun k => sqDist (T s) (W k)

include hx h2 hn in
/-- The block's distances. -/
theorem pay9_apply (k : Fin 512) (s : Fin 2048) : k0_pay9 (F := Ideal) x w2 wn (ix2 k s) = ((sqDist (T s) (W k) : ℝ) : EReal) := by
  have hs : ∀ c, x (ix5 (0 : Fin 1) c ⟨s.val / 1024, by omega⟩ ⟨s.val / 32 % 32, by omega⟩ ⟨s.val % 32, by omega⟩) = ((T s c : ℝ) : EReal) := by
    intro c
    rw [hx]
    refine congrArg (fun u : Fin 2048 => ((T u c : ℝ) : EReal)) (Fin.ext ?_)
    show s.val / 1024 * 1024 + s.val / 32 % 32 * 32 + s.val % 32 = s.val
    omega
  unfold k0_pay9
  pointwise
  simp only [hs, h2, hn, ← EReal.coe_mul, ← coe_sum]
  rw [← EReal.coe_add, ← EReal.coe_add, sqDist_eq]
  congr 1
  rw [sub_eq_add_neg, Finset.mul_sum, ← Finset.sum_neg_distrib]
  exact congrArg _ (Finset.sum_congr rfl fun c _ => by ring)

include hx h2 hn in
/-- Each column's least distance. -/
theorem pay10_apply (s : Fin 2048) : k0_pay10 (F := Ideal) x w2 wn (ix2 (0 : Fin 1) s) = ((sqDist (T s) (W (near T W s)) : ℝ) : EReal) := by
  have hd := fun k => pay9_apply x w2 wn T W hx h2 hn k s
  unfold k0_pay10
  generalize k0_pay9 (F := Ideal) x w2 wn = d at hd
  pointwise
  simp only [hd]
  rw [inf_word]
  exact fold_min_first fun k => sqDist (T s) (W k)

include hx h2 hn in
/-- The block's one-hot columns. -/
theorem pay11_apply (k : Fin 512) (s : Fin 2048) : k0_pay11 (F := Ideal) x w2 wn (ix2 k s) = if k = near T W s then (1 : EReal) else 0 := by
  have hd := fun k => pay9_apply x w2 wn T W hx h2 hn k s
  have hm := pay10_apply x w2 wn T W hx h2 hn s
  unfold k0_pay11
  generalize k0_pay9 (F := Ideal) x w2 wn = d at hd
  generalize k0_pay10 (F := Ideal) x w2 wn = m at hm
  pointwise
  simp only [hd, hm, index_word]
  rw [inf_word, top_index, fold_min_index fun k => sqDist (T s) (W k), flag_word]
  by_cases h : k = near T W s
  · subst h
    simp
  · rw [if_neg h, if_neg]
    intro e
    exact h (Fin.ext (by exact_mod_cast EReal.coe_injective e))

include hx h2 hn ht in
/-- The block's looked-up columns. -/
theorem pay12_apply (c : Fin 32) (s : Fin 2048) : k0_pay12 (F := Ideal) x w2 wn wt (ix2 c s) = ((W (near T W s) c : ℝ) : EReal) := by
  have hd := fun k => pay11_apply x w2 wn T W hx h2 hn k s
  unfold k0_pay12
  generalize k0_pay11 (F := Ideal) x w2 wn = d at hd
  pointwise
  simp only [ht, hd]
  simp

end Values

end Cert.Kern

end
-- ==== Proof.Arrays.lean ====
/- What the kernel's input windows hold at a grid point, read off the two arguments. -/
module

public import proofs.«01_k».proof.Proof.Gen.KernelIdeal.Frame
public import proofs.«01_k».proof.Proof.Block
public import Idealize.ShloMosaic.Lib.StableHlo.Run

@[expose] public section

set_option maxRecDepth 16384

noncomputable section

namespace Cert.Kern

open Idealize.ShloMosaic Idealize.ShloMosaic.TcCoe Idealize.ShloMosaic.StableHlo Idealize.SL.Sem Cert.KernelIdeal Cert.KernelIdeal.Gen Cert.VQ

variable (m : (ℓ : Loc nD τ sig) → Buf (Elt Ideal) ℓ) (c : Dev nD)

/-! ## The arrays the host prepares -/

/-- The first prepared array is the codebook times minus two. -/
theorem V_scaled : V m c main_v2
    = mulf (F := Ideal) (broadcastInDim S512x32 ![] bcast_S_S512x32 (constant S_ .f32 0xC0000000#32)) (m ((c : Thread nD τ).loc main_arg1)) := by
  unfold_abbrev_sides
  after_results <;> rfl

/-- The second is the column of the codes' squared norms. -/
theorem V_norms : V m c main_v5
    = broadcastInDim S512x1 ![0] bcast_S512_S512x1_0 (Host.reduceAdd (F := Ideal) (mulf (m ((c : Thread nD τ).loc main_arg1)) (m ((c : Thread nD τ).loc main_arg1)))
        (constant S_ .f32 0x00000000#32) reducesTo_S512x32_S512_d1 h_S_) := by
  unfold_abbrev_sides
  after_results <;> rfl

/-- The third is the codebook transposed. -/
theorem V_turned : V m c main_v0 = transpose (α := Ideal .f32) S32x512 [1, 0] (m ((c : Thread nD τ).loc main_arg1)) transposes_S512x32_S32x512_1_0 := by
  unfold_abbrev_sides
  after_results <;> rfl

/-! ## The blocks -/

/-- A grid point's place: the image and the pair of slices. -/
theorem index_0 (t : Fin cfg0.N) : win0_0.index t 0 = t.val / 16 ∧ win0_0.index t 1 = 0 ∧ win0_0.index t 2 = t.val % 16
    ∧ win0_0.index t 3 = 0 ∧ win0_0.index t 4 = 0 := by
  revert t
  decide

/-- The windows over the prepared arrays do not move. -/
theorem index_rest (t : Fin cfg0.N) : (win0_1.index t 0 = 0 ∧ win0_1.index t 1 = 0) ∧ (win0_2.index t 0 = 0 ∧ win0_2.index t 1 = 0)
    ∧ win0_3.index t 0 = 0 ∧ win0_3.index t 1 = 0 := by
  revert t
  decide

section Values
variable (x : (⟨S2x32x32x32x32, .f32⟩ : BufTy).Contents (Elt Ideal)) (w : (⟨S512x32, .f32⟩ : BufTy).Contents (Elt Ideal))
  (hmx : m ((c : Thread nD τ).loc main_arg0) = x) (hmw : m ((c : Thread nD τ).loc main_arg1) = w)
variable (X : Fin 2 → Fin 32 → Fin 32 → Fin 32 → Fin 32 → ℝ) (W : Fin 512 → Fin 32 → ℝ)
  (hx : ∀ a b d e f, x (ix5 a b d e f) = ((X a b d e f : ℝ) : EReal)) (hw : ∀ k e, w (ix2 k e) = ((W k e : ℝ) : EReal))

/-- The token in column `s` at grid point `t`. -/
def tok (t : Fin cfg0.N) (s : Fin 2048) : Fin 65536 := ⟨t.val * 2048 + s.val, by have := lt_of_lt_of_eq t.isLt (show cfg0.N = 32 from N_0); omega⟩

include hmx hx in
/-- The input block at point `t` holds the tokens `t * 2048 …` in its columns. -/
theorem iblk_x (t : Fin cfg0.N) (e : Fin 32) (d : Fin 2) (h v : Fin 32) :
    (iblk m c 0 t : Vec Ideal S1x32x2x32x32 .f32) (ix5 (0 : Fin 1) e d h v) = ((token X (tok t (column d h v)) e : ℝ) : EReal) := by
  have hN := lt_of_lt_of_eq t.isLt (show cfg0.N = 32 from N_0)
  obtain ⟨h0, h1, h2, h3, h4⟩ := index_0 t
  have hp : tok t (column d h v) = position ⟨t.val / 16, by omega⟩ ⟨t.val % 16 * 2 + d.val, by omega⟩ h v := by
    apply Fin.ext
    show t.val * 2048 + (d.val * 1024 + h.val * 32 + v.val) = ((t.val / 16 * 32 + (t.val % 16 * 2 + d.val)) * 32 + h.val) * 32 + v.val
    omega
  rw [hp, token_position, ← hx, ← hmx]
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 16; rw [h0]; omega
  | ⟨1, _⟩ => show win0_0.index t 1 * 32 + 1 * e.val = e.val; rw [h1]; omega
  | ⟨2, _⟩ => show win0_0.index t 2 * 2 + 1 * d.val = t.val % 16 * 2 + d.val; rw [h2]; omega
  | ⟨3, _⟩ => show win0_0.index t 3 * 32 + 1 * h.val = h.val; rw [h3]; omega
  | ⟨4, _⟩ => show win0_0.index t 4 * 32 + 1 * v.val = v.val; rw [h4]; omega

include hmw hw in
/-- The second window holds the codebook times minus two. -/
theorem iblk_scaled (t : Fin cfg0.N) (k : Fin 512) (e : Fin 32) :
    (iblk m c 1 t : Vec Ideal S512x32 .f32) (ix2 k e) = ((-2 * W k e : ℝ) : EReal) := by
  obtain ⟨⟨h0, h1⟩, -⟩ := index_rest t
  have hi : (iblk m c 1 t : Vec Ideal S512x32 .f32) (ix2 k e) = (V m c main_v2 : Vec Ideal S512x32 .f32) (ix2 k e) := by
    unfold iblk
    rw [View.read_apply]
    show V m c main_v2 _ = V m c main_v2 _
    congr 1
    funext a
    apply Fin.ext
    match a with
    | ⟨0, _⟩ => show win0_1.index t 0 * 512 + 1 * k.val = k.val; rw [h0]; omega
    | ⟨1, _⟩ => show win0_1.index t 1 * 32 + 1 * e.val = e.val; rw [h1]; omega
  have hc : Ideal.ofBits FTy.f32 0xC0000000#32 = ((-2 : ℝ) : EReal) := by
    simp [Ideal.ofBits, Ideal.ieee, -EReal.coe_mul]; norm_num
  rw [hi, V_scaled, hmw]
  pointwise
  rw [hw, hc, ← EReal.coe_mul]

include hmw hw in
/-- The third window holds the codes' squared norms. -/
theorem iblk_norms (t : Fin cfg0.N) (k : Fin 512) :
    (iblk m c 2 t : Vec Ideal S512x1 .f32) (ix2 k (0 : Fin 1)) = ((∑ e, W k e * W k e : ℝ) : EReal) := by
  obtain ⟨-, ⟨h0, h1⟩, -⟩ := index_rest t
  have hi : (iblk m c 2 t : Vec Ideal S512x1 .f32) (ix2 k (0 : Fin 1)) = (V m c main_v5 : Vec Ideal S512x1 .f32) (ix2 k (0 : Fin 1)) := by
    unfold iblk
    rw [View.read_apply]
    show V m c main_v5 _ = V m c main_v5 _
    congr 1
    funext a
    apply Fin.ext
    match a with
    | ⟨0, _⟩ => show win0_2.index t 0 * 512 + 1 * k.val = k.val; rw [h0]; omega
    | ⟨1, _⟩ => show win0_2.index t 1 * 1 + 1 * 0 = 0; rw [h1]
  rw [hi, V_norms, hmw]
  pointwise
  simp only [hw, ← EReal.coe_mul, ← coe_sum]

include hmw hw in
/-- The fourth window holds the codebook transposed. -/
theorem iblk_turned (t : Fin cfg0.N) (e : Fin 32) (k : Fin 512) :
    (iblk m c 3 t : Vec Ideal S32x512 .f32) (ix2 e k) = ((W k e : ℝ) : EReal) := by
  obtain ⟨-, -, h0, h1⟩ := index_rest t
  have hi : (iblk m c 3 t : Vec Ideal S32x512 .f32) (ix2 e k) = (V m c main_v0 : Vec Ideal S32x512 .f32) (ix2 e k) := by
    unfold iblk
    rw [View.read_apply]
    show V m c main_v0 _ = V m c main_v0 _
    congr 1
    funext a
    apply Fin.ext
    match a with
    | ⟨0, _⟩ => show win0_3.index t 0 * 32 + 1 * e.val = e.val; rw [h0]; omega
    | ⟨1, _⟩ => show win0_3.index t 1 * 512 + 1 * k.val = k.val; rw [h1]; omega
  rw [hi, V_turned, hmw]
  pointwise
  exact hw k e

end Values

end Cert.Kern

end
-- ==== Proof.Sweep.lean ====
/- What the kernel's four result arrays hold after the run, at the ideal values, on real arguments. -/
module

public import proofs.«01_k».proof.Proof.Gen.KernelIdeal.Value
public import proofs.«01_k».proof.Proof.Cases
public import proofs.«01_k».proof.Proof.Arrays

@[expose] public section

set_option maxRecDepth 16384

noncomputable section

namespace Cert.Kern

open Idealize.ShloMosaic Idealize.ShloMosaic.TcCoe Idealize.SL.Sem Cert.KernelIdeal Cert.KernelIdeal.Gen Cert.KernelIdeal.Value Cert.VQ

variable (m : (ℓ : Loc nD τ sig) → Buf (Elt Ideal) ℓ) (c : Dev nD)

/-- The carried tuple: the code rows, the looked-up block, the loss, the perplexity and the counts. -/
abbrev Carried : Type := Vec Ideal S2048x512 .f32 × Vec Ideal S1x32x2x32x32 .f32 × Vec Ideal S1x1 .f32 × Vec Ideal S1x1 .f32 × Vec Ideal S1x512 .f32

/-! ## One point -/

/-- Every point writes the one-hot rows of its block. -/
theorem step_codes (t : Fin cfg0.N) (acc : Carried) :
    (stAt0 m c t.val t.isLt acc).1 = k0_pay2 (k0_pay11 (iblk m c 0 t) (iblk m c 1 t) (iblk m c 2 t)) := by
  by_cases h0 : t.val % 32 = 0
  · rw [stAt0_A m c t acc h0 (by omega)]
    dsimp only
    exact codes_A ..
  · by_cases h1 : t.val % 32 = 31
    · rw [stAt0_C m c t acc h0 h1]
      dsimp only
      exact codes_C ..
    · rw [stAt0_B m c t acc h0 h1]
      dsimp only
      exact codes_B ..

/-- Every point writes the looked-up codes of its block. -/
theorem step_rows (t : Fin cfg0.N) (acc : Carried) :
    (stAt0 m c t.val t.isLt acc).2.1 = k0_pay1 (k0_pay12 (iblk m c 0 t) (iblk m c 1 t) (iblk m c 2 t) (iblk m c 3 t)) := by
  by_cases h0 : t.val % 32 = 0
  · rw [stAt0_A m c t acc h0 (by omega)]
    dsimp only
    exact rows_A ..
  · by_cases h1 : t.val % 32 = 31
    · rw [stAt0_C m c t acc h0 h1]
      dsimp only
      exact rows_C ..
    · rw [stAt0_B m c t acc h0 h1]
      dsimp only
      exact rows_B ..

/-- The first point starts the loss and the counts at zero and adds its block's. -/
theorem step_first (t : Fin cfg0.N) (acc : Carried) (h0 : t.val % 32 = 0) :
    (stAt0 m c t.val t.isLt acc).2.2.1 = k0_pay3 (k0_pay10 (iblk m c 0 t) (iblk m c 1 t) (iblk m c 2 t)) (k0_pay7 (F := Ideal))
    ∧ (stAt0 m c t.val t.isLt acc).2.2.2.2 = k0_pay4 (k0_pay11 (iblk m c 0 t) (iblk m c 1 t) (iblk m c 2 t)) (k0_pay8 (F := Ideal)) := by
  rw [stAt0_A m c t acc h0 (by omega)]
  dsimp only
  exact ⟨loss_A .., count_A ..⟩

/-- A middle point adds its block's. -/
theorem step_middle (t : Fin cfg0.N) (acc : Carried) (h0 : ¬t.val % 32 = 0) (h1 : ¬t.val % 32 = 31) :
    (stAt0 m c t.val t.isLt acc).2.2.1 = k0_pay3 (k0_pay10 (iblk m c 0 t) (iblk m c 1 t) (iblk m c 2 t)) acc.2.2.1
    ∧ (stAt0 m c t.val t.isLt acc).2.2.2.2 = k0_pay4 (k0_pay11 (iblk m c 0 t) (iblk m c 1 t) (iblk m c 2 t)) acc.2.2.2.2 := by
  rw [stAt0_B m c t acc h0 h1]
  dsimp only
  exact ⟨loss_B .., count_B ..⟩

/-- The last point adds its block's and turns the sums into the loss and the perplexity. -/
theorem step_last (t : Fin cfg0.N) (acc : Carried) (h0 : ¬t.val % 32 = 0) (h1 : t.val % 32 = 31) :
    (stAt0 m c t.val t.isLt acc).2.2.1 = k0_pay5 (k0_pay3 (k0_pay10 (iblk m c 0 t) (iblk m c 1 t) (iblk m c 2 t)) acc.2.2.1)
    ∧ (stAt0 m c t.val t.isLt acc).2.2.2.1 = k0_pay6 (k0_pay4 (k0_pay11 (iblk m c 0 t) (iblk m c 1 t) (iblk m c 2 t)) acc.2.2.2.2) := by
  rw [stAt0_C m c t acc h0 h1]
  dsimp only
  exact ⟨loss_C .., perp_C ..⟩

/-! ## All points -/

/-- What the points up to `n` leave. -/
abbrev swept (n : ℕ) (h : 0 + n < cfg0.N) : Carried := Pipeline.accAt (fun n h => stAt0 m c n h junk0) (stAt0 m c) 0 n h

/-- A later point steps from the point before. -/
theorem swept_succ (n : ℕ) (h : 0 + (n + 1) < cfg0.N) :
    swept m c (n + 1) h = stAt0 m c (0 + (n + 1)) h (swept m c n (Nat.lt_of_succ_lt h)) := rfl

/-- The rows of codes a point leaves. -/
theorem swept_codes (n : ℕ) (h : 0 + n < cfg0.N) :
    (swept m c n h).1 = k0_pay2 (k0_pay11 (iblk m c 0 ⟨0 + n, h⟩) (iblk m c 1 ⟨0 + n, h⟩) (iblk m c 2 ⟨0 + n, h⟩)) := by
  cases n with
  | zero => exact step_codes m c ⟨0, h⟩ _
  | succ n => exact step_codes m c ⟨0 + (n + 1), h⟩ _

/-- The looked-up block a point leaves. -/
theorem swept_rows (n : ℕ) (h : 0 + n < cfg0.N) :
    (swept m c n h).2.1 = k0_pay1 (k0_pay12 (iblk m c 0 ⟨0 + n, h⟩) (iblk m c 1 ⟨0 + n, h⟩) (iblk m c 2 ⟨0 + n, h⟩) (iblk m c 3 ⟨0 + n, h⟩)) := by
  cases n with
  | zero => exact step_rows m c ⟨0, h⟩ _
  | succ n => exact step_rows m c ⟨0 + (n + 1), h⟩ _

section Values
variable (X : Fin 2 → Fin 32 → Fin 32 → Fin 32 → Fin 32 → ℝ) (W : Fin 512 → Fin 32 → ℝ)
  (hx : ∀ a b d e f, (m ((c : Thread nD τ).loc main_arg0) : Vec Ideal S2x32x32x32x32 .f32) (ix5 a b d e f) = ((X a b d e f : ℝ) : EReal))
  (hw : ∀ k e, (m ((c : Thread nD τ).loc main_arg1) : Vec Ideal S512x32 .f32) (ix2 k e) = ((W k e : ℝ) : EReal))

/-- The squared distance of token `n` to its code. -/
def gap (n : Fin 65536) : ℝ := sqDist (token X n) (W (code X W n))

/-- Whether `k` is token `n`'s code, as a number. -/
def hit (k : Fin 512) (n : Fin 65536) : EReal := if k = code X W n then 1 else 0

include hx hw in
/-- A block's least distances. -/
theorem block_gap (t : Fin cfg0.N) (s : Fin 2048) :
    k0_pay10 (F := Ideal) (iblk m c 0 t) (iblk m c 1 t) (iblk m c 2 t) (ix2 (0 : Fin 1) s) = ((gap X W (tok t s) : ℝ) : EReal) :=
  pay10_apply _ _ _ (fun s => token X (tok t s)) W (iblk_x m c _ rfl X hx t) (iblk_scaled m c _ rfl W hw t) (iblk_norms m c _ rfl W hw t) s

include hx hw in
/-- A block's one-hot columns. -/
theorem block_hit (t : Fin cfg0.N) (k : Fin 512) (s : Fin 2048) :
    k0_pay11 (F := Ideal) (iblk m c 0 t) (iblk m c 1 t) (iblk m c 2 t) (ix2 k s) = hit X W k (tok t s) :=
  pay11_apply _ _ _ (fun s => token X (tok t s)) W (iblk_x m c _ rfl X hx t) (iblk_scaled m c _ rfl W hw t) (iblk_norms m c _ rfl W hw t) k s

include hx hw in
/-- A block's looked-up codes. -/
theorem block_row (t : Fin cfg0.N) (e : Fin 32) (s : Fin 2048) :
    k0_pay12 (F := Ideal) (iblk m c 0 t) (iblk m c 1 t) (iblk m c 2 t) (iblk m c 3 t) (ix2 e s) = ((W (code X W (tok t s)) e : ℝ) : EReal) :=
  pay12_apply _ _ _ _ (fun s => token X (tok t s)) W (iblk_x m c _ rfl X hx t) (iblk_scaled m c _ rfl W hw t) (iblk_norms m c _ rfl W hw t)
    (iblk_turned m c _ rfl W hw t) e s

/-- The token in column `s` of the block numbered `t`. -/
def at_ (t : Fin 32) (s : Fin 2048) : Fin 65536 := ⟨t.val * 2048 + s.val, by omega⟩

theorem tok_eq (n : ℕ) (h : 0 + n < cfg0.N) (hn : n < 32) (s : Fin 2048) : tok ⟨0 + n, h⟩ s = at_ ⟨n, hn⟩ s :=
  Fin.ext (congrArg (fun u => u * 2048 + s.val) (Nat.zero_add n))

include hx hw in
/-- Before the last point, the loss and the counts are the sums over the blocks met so far. -/
theorem swept_sums (n : ℕ) (h : 0 + n < cfg0.N) (hn : n < 31) :
    (swept m c n h).2.2.1 (ix2 (0 : Fin 1) (0 : Fin 1)) = ∑ j : Fin (n + 1), ∑ s, ((gap X W (at_ ⟨j.val, by omega⟩ s) : ℝ) : EReal)
    ∧ ∀ k, (swept m c n h).2.2.2.2 (ix2 (0 : Fin 1) k) = ∑ j : Fin (n + 1), ∑ s, hit X W k (at_ ⟨j.val, by omega⟩ s) := by
  induction n with
  | zero =>
    obtain ⟨hl, hc⟩ := step_first m c ⟨0, h⟩ junk0 (Nat.zero_mod _)
    refine ⟨(congrFun hl _).trans ?_, fun k => (congrFun hc _).trans ?_⟩
    · rw [pay3_apply, pay7_apply, zero_add, Fin.sum_univ_one]
      exact Finset.sum_congr rfl fun s _ => (block_gap m c X W hx hw _ s).trans rfl
    · rw [pay4_apply, pay8_apply, zero_add, Fin.sum_univ_one]
      exact Finset.sum_congr rfl fun s _ => (block_hit m c X W hx hw _ k s).trans rfl
  | succ n ih =>
    obtain ⟨il, ic⟩ := ih (Nat.lt_of_succ_lt h) (by omega)
    obtain ⟨hl, hc⟩ := step_middle m c ⟨0 + (n + 1), h⟩ (swept m c n (Nat.lt_of_succ_lt h)) (by show ¬ (0 + (n + 1)) % 32 = 0; omega)
      (by show ¬ (0 + (n + 1)) % 32 = 31; omega)
    refine ⟨(congrFun hl _).trans ?_, fun k => (congrFun hc _).trans ?_⟩
    · rw [pay3_apply, il, Fin.sum_univ_castSucc (n := n + 1)]
      exact congrArg _ (Finset.sum_congr rfl fun s _ => (block_gap m c X W hx hw _ s).trans (by rw [tok_eq (n + 1) h (by omega)]; rfl))
    · rw [pay4_apply, ic, Fin.sum_univ_castSucc (n := n + 1)]
      exact congrArg _ (Finset.sum_congr rfl fun s _ => (block_hit m c X W hx hw _ k s).trans (by rw [tok_eq (n + 1) h (by omega)]; rfl))

/-- Sums over the blocks and their columns are sums over the tokens. -/
theorem sum_blocks (f : Fin 65536 → EReal) : ∑ j : Fin (30 + 1), (∑ s, f (at_ ⟨j.val, by omega⟩ s)) + ∑ s, f (at_ 31 s) = ∑ n, f n := by
  rw [sum_rows (m := 32) (n := 2048) rfl f (fun a b => f (at_ a b)) (fun a b i hi => congrArg f (Fin.ext hi)), Fin.sum_univ_castSucc (n := 31)]
  rfl

theorem last_lt : 0 + 31 < cfg0.N := lt_of_lt_of_eq (by decide) N_0.symm

include hx hw in
/-- The loss result: a quarter more than the mean squared distance of the tokens to their codes. -/
theorem G6_apply : G6 m c (ix2 (0 : Fin 1) (0 : Fin 1)) = Ideal.div (((5 / 4 : ℝ) : EReal) * ∑ n, ((gap X W n : ℝ) : EReal)) ((2097152 : ℝ) : EReal) := by
  obtain ⟨il, -⟩ := swept_sums m c X W hx hw 30 (Nat.lt_of_succ_lt last_lt) (by omega)
  obtain ⟨hl, -⟩ := step_last m c ⟨0 + 31, last_lt⟩ (swept m c 30 (Nat.lt_of_succ_lt last_lt)) (by decide) (by decide)
  have e : swept m c 31 last_lt = stAt0 m c (0 + 31) last_lt (swept m c 30 (Nat.lt_of_succ_lt last_lt)) := swept_succ m c 30 last_lt
  have hk : k0_pay3 (F := Ideal) (k0_pay10 (iblk m c 0 ⟨0 + 31, last_lt⟩) (iblk m c 1 ⟨0 + 31, last_lt⟩) (iblk m c 2 ⟨0 + 31, last_lt⟩))
      (swept m c 30 (Nat.lt_of_succ_lt last_lt)).2.2.1 (ix2 (0 : Fin 1) (0 : Fin 1)) = ∑ n, ((gap X W n : ℝ) : EReal) := by
    rw [pay3_apply, il, ← sum_blocks]
    refine congrArg _ (Finset.sum_congr rfl fun s _ => (block_gap m c X W hx hw _ s).trans ?_)
    rw [tok_eq 31 last_lt (by omega)]
    rfl
  refine (congrFun ((G6_last m c).trans ((congrArg (fun u : Carried => u.2.2.1) e).trans hl)) _).trans ?_
  rw [pay5_apply, hk]

include hx hw in
/-- The perplexity result, of the counts over the tokens. -/
theorem G7_apply : G7 m c (ix2 (0 : Fin 1) (0 : Fin 1)) = Ideal.exp (-∑ k : Fin 512, Ideal.div (∑ n, hit X W k n) (Ideal.ofBits .f32 0x47800000#32)
      * Ideal.log (Ideal.div (∑ n, hit X W k n) (Ideal.ofBits .f32 0x47800000#32) + Ideal.ofBits .f32 0x2EDBE6FF#32)) := by
  obtain ⟨-, ic⟩ := swept_sums m c X W hx hw 30 (Nat.lt_of_succ_lt last_lt) (by omega)
  obtain ⟨-, hp⟩ := step_last m c ⟨0 + 31, last_lt⟩ (swept m c 30 (Nat.lt_of_succ_lt last_lt)) (by decide) (by decide)
  have hk : ∀ k, k0_pay4 (F := Ideal) (k0_pay11 (iblk m c 0 ⟨0 + 31, last_lt⟩) (iblk m c 1 ⟨0 + 31, last_lt⟩) (iblk m c 2 ⟨0 + 31, last_lt⟩))
      (swept m c 30 (Nat.lt_of_succ_lt last_lt)).2.2.2.2 (ix2 (0 : Fin 1) k) = ∑ n, hit X W k n := by
    intro k
    rw [pay4_apply, ic, ← sum_blocks]
    refine congrArg _ (Finset.sum_congr rfl fun s _ => (block_hit m c X W hx hw _ k s).trans ?_)
    rw [tok_eq 31 last_lt (by omega)]
    rfl
  have e : swept m c 31 last_lt = stAt0 m c (0 + 31) last_lt (swept m c 30 (Nat.lt_of_succ_lt last_lt)) := swept_succ m c 30 last_lt
  refine (congrFun ((G7_last m c).trans ((congrArg (fun u : Carried => u.2.2.2.1) e).trans hp)) _).trans ?_
  rw [pay6_apply]
  simp only [hk]

include hx hw in
/-- The one-hot result. -/
theorem G4_apply (n : Fin 65536) (k : Fin 512) : G4 m c (ix2 n k) = hit X W k n := by
  have hn := n.isLt
  have hk := k.isLt
  have hp : pt4Of (ix2 n k) = n.val / 2048 := by
    show 1 * (n.val / 2048 - 0) + 1 * (k.val / 512 - 0) = _
    omega
  have hN : cfg0.N = 32 := N_0
  unfold G4
  rw [dif_pos (by omega), fold0_congr m c _ _ (n.val / 2048) (by omega) hp]
  refine (congrFun (swept_codes m c _ _) _).trans ?_
  have hl : loc4Of (ix2 n k) = ix2 (⟨n.val % 2048, by omega⟩ : Fin 2048) k := by
    funext a; apply Fin.ext
    match a with
    | ⟨0, _⟩ => rfl
    | ⟨1, _⟩ => show k.val % 512 = k.val; omega
  rw [hl, pay2_apply, block_hit m c X W hx hw, tok_eq _ _ (by omega)]
  refine congrArg _ (Fin.ext ?_)
  show n.val / 2048 * 2048 + n.val % 2048 = n.val
  omega

include hx hw in
/-- The quantized result. -/
theorem G5_apply (b : Fin 2) (e d h v : Fin 32) : G5 m c (ix5 b e d h v) = ((W (code X W (position b d h v)) e : ℝ) : EReal) := by
  have hp : pt5Of (ix5 b e d h v) = b.val * 16 + d.val / 2 := by
    show 16 * (b.val / 1 - 0) + 16 * (e.val / 32 - 0) + 1 * (d.val / 2 - 0) + 1 * (h.val / 32 - 0) + 1 * (v.val / 32 - 0) = _
    omega
  have hN : cfg0.N = 32 := N_0
  unfold G5
  rw [dif_pos (by omega), fold0_congr m c _ _ (b.val * 16 + d.val / 2) (by omega) hp]
  refine (congrFun (swept_rows m c _ _) _).trans ?_
  have hl : loc5Of (ix5 b e d h v) = ix5 (0 : Fin 1) e (⟨d.val % 2, by omega⟩ : Fin 2) h v := by
    funext a; apply Fin.ext
    match a with
    | ⟨0, _⟩ => show b.val % 1 = 0; omega
    | ⟨1, _⟩ => show e.val % 32 = e.val; omega
    | ⟨2, _⟩ => rfl
    | ⟨3, _⟩ => show h.val % 32 = h.val; omega
    | ⟨4, _⟩ => show v.val % 32 = v.val; omega
  rw [hl, pay1_apply, block_row m c X W hx hw, tok_eq _ _ (by omega)]
  refine congrArg (fun u => ((W (code X W u) e : ℝ) : EReal)) (Fin.ext ?_)
  show (b.val * 16 + d.val / 2) * 2048 + (d.val % 2 * 1024 + h.val * 32 + v.val) = ((b.val * 32 + d.val) * 32 + h.val) * 32 + v.val
  omega

end Values

end Cert.Kern

end
-- ==== Proof.RefRun.lean ====
/- The reference, run: its operations in five stretches, what each stretch leaves in its result buffer as a function of
   what it found, and the whole run stated with the four results as the composition of these functions. -/
module

public import proofs.«01_k».proof.Proof.Gen.ReferenceIdeal
public import Idealize.ShloMosaic.Lib.StableHlo.Run

@[expose] public section

set_option maxRecDepth 16384

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-! ## The stages, as functions of arrays -/

/-- The input with its channel axis moved last. -/
def moved (x : (⟨S2x32x32x32x32, .f32⟩ : BufTy).Contents (Elt F)) : (⟨S2x32x32x32x32, .f32⟩ : BufTy).Contents (Elt F) :=
  transpose S2x32x32x32x32 [0, 2, 3, 4, 1] x transposes_S2x32x32x32x32_S2x32x32x32x32_0_2_3_4_1

/-- One row per position, one column per channel. -/
def rows (xt : (⟨S2x32x32x32x32, .f32⟩ : BufTy).Contents (Elt F)) : (⟨S65536x32, .f32⟩ : BufTy).Contents (Elt F) :=
  shapeCast _ xt shapeCasts_S2x32x32x32x32_S65536x32

/-- The squared distance of every row to every code: the two squared norms less twice the inner product. -/
def dists (f : (⟨S65536x32, .f32⟩ : BufTy).Contents (Elt F)) (w : (⟨S512x32, .f32⟩ : BufTy).Contents (Elt F)) :
    (⟨S65536x512, .f32⟩ : BufTy).Contents (Elt F) :=
  subf
    (addf
      (broadcastInDim S65536x512 ![0, 1] bcast_S65536x1_S65536x512_0_1
        (broadcastInDim S65536x1 ![0] bcast_S65536_S65536x1_0
          (Host.reduceAdd (mulf f f) (constant S_ .f32 0x00000000#32) reducesTo_S65536x32_S65536_d1 h_S_)))
      (broadcastInDim S65536x512 ![0, 1] bcast_S1x512_S65536x512_0_1
        (broadcastInDim S1x512 ![1] bcast_S512_S1x512_1
          (Host.reduceAdd (mulf w w) (constant S_ .f32 0x00000000#32) reducesTo_S512x32_S512_d1 h_S_))))
    (mulf (broadcastInDim S65536x512 ![] bcast_S_S65536x512 (constant S_ .f32 0x40000000#32))
      (Host.dotGeneral dot_S65536x32_S32x512_S65536x512_1_0_0_1_n_n none f
        (transpose S32x512 [1, 0] w transposes_S512x32_S32x512_1_0)))

/-- Each row's argmin. -/
def codes (d : (⟨S65536x512, .f32⟩ : BufTy).Contents (Elt F)) : (⟨S65536, .i32⟩ : BufTy).Contents (Elt F) :=
  fun j => (Host.argReduce reducer_argmin_f32_i32 d (iotaInDim S65536x512 32 1) (constant S_ .f32 0x7F800000#32)
    (constantI S_ 32 0#32) reducesTo_S65536x512_S65536_d1 h_S_ j).2

/-- An index array with its negative entries raised by the extent `n`. -/
def wrapped (n : BitVec 32) (k : (⟨S65536, .i32⟩ : BufTy).Contents (Elt F)) : (⟨S65536, .i32⟩ : BufTy).Contents (Elt F) :=
  select (cmpi .slt k (broadcastInDim S65536 ![] bcast_S_S65536 (constantI S_ 32 0#32)))
    (addi k (broadcastInDim S65536 ![] bcast_S_S65536 (constantI S_ 32 n))) k

/-- The (row, code) pairs at which the one-hot array is set. -/
def cells (k : (⟨S65536, .i32⟩ : BufTy).Contents (Elt F)) : (⟨S65536x2, .i32⟩ : BufTy).Contents (Elt F) :=
  concatenate S65536x2 1
    [⟨S65536x1, broadcastInDim S65536x1 ![0] bcast_S65536_S65536x1_0 (wrapped (F := F) 65536#32 (iotaInDim S65536 32 0))⟩,
     ⟨S65536x1, broadcastInDim S65536x1 ![0] bcast_S65536_S65536x1_0 (wrapped (F := F) 512#32 k)⟩]
    concatenates_S65536x1_S65536x1_S65536x2_d1

/-- The one-hot rows: zeros, with a one set at each pair. -/
def oneHot (k : (⟨S65536, .i32⟩ : BufTy).Contents (Elt F)) : (⟨S65536x512, .f32⟩ : BufTy).Contents (Elt F) :=
  Host.scatter scatter_S65536x512_S65536x2_S65536_n_01_01_1 (fun _ b => b)
    (broadcastInDim S65536x512 ![] bcast_S_S65536x512 (constant S_ .f32 0x00000000#32)) (cells (F := F) k)
    (broadcastInDim S65536 ![] bcast_S_S65536 (constant S_ .f32 0x3F800000#32))

/-- The codes that the one-hot rows pick, channel axis last. -/
def lookup (e : (⟨S65536x512, .f32⟩ : BufTy).Contents (Elt F)) (w : (⟨S512x32, .f32⟩ : BufTy).Contents (Elt F)) :
    (⟨S2x32x32x32x32, .f32⟩ : BufTy).Contents (Elt F) :=
  shapeCast _ (Host.dotGeneral dot_S65536x512_S512x32_S65536x32_1_0_0_1_n_n none e w) shapeCasts_S65536x32_S2x32x32x32x32

/-- The mean of the squared differences. -/
def meanSq (q xt : (⟨S2x32x32x32x32, .f32⟩ : BufTy).Contents (Elt F)) : (⟨S_, .f32⟩ : BufTy).Contents (Elt F) :=
  Host.divf (Host.reduceAdd (mulf (subf q xt) (subf q xt)) (constant S_ .f32 0x00000000#32) reducesTo_S2x32x32x32x32_S_d0_1_2_3_4 h_S_)
    (constant S_ .f32 0x4A000000#32)

/-- The mean squared difference plus a quarter of it. -/
def lossOf (q xt : (⟨S2x32x32x32x32, .f32⟩ : BufTy).Contents (Elt F)) : (⟨S_, .f32⟩ : BufTy).Contents (Elt F) :=
  addf (meanSq q xt) (mulf (constant S_ .f32 0x3E800000#32) (meanSq q xt))

/-- The input plus the difference to its code, channel axis back in second place. -/
def passed (q xt : (⟨S2x32x32x32x32, .f32⟩ : BufTy).Contents (Elt F)) : (⟨S2x32x32x32x32, .f32⟩ : BufTy).Contents (Elt F) :=
  transpose S2x32x32x32x32 [0, 4, 1, 2, 3] (addf xt (subf q xt)) transposes_S2x32x32x32x32_S2x32x32x32x32_0_4_1_2_3

/-- How often each code is used, as a fraction of the rows. -/
def usage (e : (⟨S65536x512, .f32⟩ : BufTy).Contents (Elt F)) : (⟨S512, .f32⟩ : BufTy).Contents (Elt F) :=
  Host.divf (Host.reduceAdd e (constant S_ .f32 0x00000000#32) reducesTo_S65536x512_S512_d0 h_S_)
    (broadcastInDim S512 ![] bcast_S_S512 (constant S_ .f32 0x47800000#32))

/-- The perplexity of a usage vector: the exponential of its entropy. -/
def perplexity (p : (⟨S512, .f32⟩ : BufTy).Contents (Elt F)) : (⟨S_, .f32⟩ : BufTy).Contents (Elt F) :=
  Host.exp (Host.negf (Host.reduceAdd
    (mulf p (Host.log (addf p (broadcastInDim S512 ![] bcast_S_S512 (constant S_ .f32 0x2EDBE6FF#32)))))
    (constant S_ .f32 0x00000000#32) reducesTo_S512_S_d0 h_S_))

/-! ## The operations -/

/-- The operations that compute the squared distances. -/
abbrev opsDist : List (HloOp τ sig (Elt F)) :=
  [ unary main_arg0 main_v0 ((transpose S2x32x32x32x32 [0, 2, 3, 4, 1] · transposes_S2x32x32x32x32_S2x32x32x32x32_0_2_3_4_1) : (⟨S2x32x32x32x32, .f32⟩ : BufTy).Contents (Elt F) → (⟨S2x32x32x32x32, .f32⟩ : BufTy).Contents (Elt F)),
    reshape main_v0 main_v1 (rfl : (.f32 : EltTy) = .f32) shapeCasts_S2x32x32x32x32_S65536x32,
    binary main_v1 main_v1 main_v2 (mulf : (⟨S65536x32, .f32⟩ : BufTy).Contents (Elt F) → (⟨S65536x32, .f32⟩ : BufTy).Contents (Elt F) → (⟨S65536x32, .f32⟩ : BufTy).Contents (Elt F)),
    nullary main_cst (constant S_ .f32 0x00000000#32),
    binary main_v2 main_cst main_v3 ((fun x v => Host.reduceAdd x v reducesTo_S65536x32_S65536_d1 h_S_) : (⟨S65536x32, .f32⟩ : BufTy).Contents (Elt F) → (⟨S_, .f32⟩ : BufTy).Contents (Elt F) → (⟨S65536, .f32⟩ : BufTy).Contents (Elt F)),
    unary main_v3 main_v4 (broadcastInDim S65536x1 ![0] bcast_S65536_S65536x1_0 : (⟨S65536, .f32⟩ : BufTy).Contents (Elt F) → (⟨S65536x1, .f32⟩ : BufTy).Contents (Elt F)),
    binary main_arg1 main_arg1 main_v5 (mulf : (⟨S512x32, .f32⟩ : BufTy).Contents (Elt F) → (⟨S512x32, .f32⟩ : BufTy).Contents (Elt F) → (⟨S512x32, .f32⟩ : BufTy).Contents (Elt F)),
    nullary main_cst_0 (constant S_ .f32 0x00000000#32),
    binary main_v5 main_cst_0 main_v6 ((fun x v => Host.reduceAdd x v reducesTo_S512x32_S512_d1 h_S_) : (⟨S512x32, .f32⟩ : BufTy).Contents (Elt F) → (⟨S_, .f32⟩ : BufTy).Contents (Elt F) → (⟨S512, .f32⟩ : BufTy).Contents (Elt F)),
    unary main_v6 main_v7 (broadcastInDim S1x512 ![1] bcast_S512_S1x512_1 : (⟨S512, .f32⟩ : BufTy).Contents (Elt F) → (⟨S1x512, .f32⟩ : BufTy).Contents (Elt F)),
    unary main_v4 main_v8 (broadcastInDim S65536x512 ![0, 1] bcast_S65536x1_S65536x512_0_1 : (⟨S65536x1, .f32⟩ : BufTy).Contents (Elt F) → (⟨S65536x512, .f32⟩ : BufTy).Contents (Elt F)),
    unary main_v7 main_v9 (broadcastInDim S65536x512 ![0, 1] bcast_S1x512_S65536x512_0_1 : (⟨S1x512, .f32⟩ : BufTy).Contents (Elt F) → (⟨S65536x512, .f32⟩ : BufTy).Contents (Elt F)),
    binary main_v8 main_v9 main_v10 (addf : (⟨S65536x512, .f32⟩ : BufTy).Contents (Elt F) → (⟨S65536x512, .f32⟩ : BufTy).Contents (Elt F) → (⟨S65536x512, .f32⟩ : BufTy).Contents (Elt F)),
    unary main_arg1 main_v11 ((transpose S32x512 [1, 0] · transposes_S512x32_S32x512_1_0) : (⟨S512x32, .f32⟩ : BufTy).Contents (Elt F) → (⟨S32x512, .f32⟩ : BufTy).Contents (Elt F)),
    binary main_v1 main_v11 main_v12 ((fun l r => Host.dotGeneral dot_S65536x32_S32x512_S65536x512_1_0_0_1_n_n none l r) : (⟨S65536x32, .f32⟩ : BufTy).Contents (Elt F) → (⟨S32x512, .f32⟩ : BufTy).Contents (Elt F) → (⟨S65536x512, .f32⟩ : BufTy).Contents (Elt F)),
    nullary main_cst_1 (constant S_ .f32 0x40000000#32),
    unary main_cst_1 main_v13 (broadcastInDim S65536x512 ![] bcast_S_S65536x512 : (⟨S_, .f32⟩ : BufTy).Contents (Elt F) → (⟨S65536x512, .f32⟩ : BufTy).Contents (Elt F)),
    binary main_v13 main_v12 main_v14 (mulf : (⟨S65536x512, .f32⟩ : BufTy).Contents (Elt F) → (⟨S65536x512, .f32⟩ : BufTy).Contents (Elt F) → (⟨S65536x512, .f32⟩ : BufTy).Contents (Elt F)),
    binary main_v10 main_v14 main_v15 (subf : (⟨S65536x512, .f32⟩ : BufTy).Contents (Elt F) → (⟨S65536x512, .f32⟩ : BufTy).Contents (Elt F) → (⟨S65536x512, .f32⟩ : BufTy).Contents (Elt F)) ]

/-- The operations that compute the argmin of each row. -/
abbrev opsArgmin : List (HloOp τ sig (Elt F)) :=
  [ TRef.nullary (TRef.of (T := ⟨S65536x512, .i32⟩) main_call0_v0) (iotaInDim S65536x512 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S65536x512, .f32⟩) main_v15) (TRef.of (T := ⟨S65536x512, .i32⟩) main_call0_v0) (TRef.of (T := ⟨S_, .f32⟩) main_call0_cst) (TRef.of (T := ⟨S_, .i32⟩) main_call0_c) (TRef.of (T := ⟨S65536, .f32⟩) main_call0_v1_0) (fun x y u v j => (Host.argReduce reducer_argmin_f32_i32 x y u v reducesTo_S65536x512_S65536_d1 h_S_ j).1),
    TRef.quaternary (TRef.of (T := ⟨S65536x512, .f32⟩) main_v15) (TRef.of (T := ⟨S65536x512, .i32⟩) main_call0_v0) (TRef.of (T := ⟨S_, .f32⟩) main_call0_cst) (TRef.of (T := ⟨S_, .i32⟩) main_call0_c) (TRef.of (T := ⟨S65536, .i32⟩) main_v16) (fun x y u v j => (Host.argReduce reducer_argmin_f32_i32 x y u v reducesTo_S65536x512_S65536_d1 h_S_ j).2) ]

/-- The operations that compute the one-hot rows. -/
abbrev opsOneHot : List (HloOp τ sig (Elt F)) :=
  [ nullary main_cst_2 (constant S_ .f32 0x00000000#32),
    unary main_cst_2 main_v17 (broadcastInDim S65536x512 ![] bcast_S_S65536x512 : (⟨S_, .f32⟩ : BufTy).Contents (Elt F) → (⟨S65536x512, .f32⟩ : BufTy).Contents (Elt F)),
    nullary main_v18 (iotaInDim S65536 32 0),
    nullary main_c (constantI S_ 32 0#32),
    unary main_c main_v19 (broadcastInDim S65536 ![] bcast_S_S65536 : (⟨S_, .i32⟩ : BufTy).Contents (Elt F) → (⟨S65536, .i32⟩ : BufTy).Contents (Elt F)),
    binary main_v18 main_v19 main_v20 (cmpi .slt : (⟨S65536, .i32⟩ : BufTy).Contents (Elt F) → (⟨S65536, .i32⟩ : BufTy).Contents (Elt F) → (⟨S65536, .i1⟩ : BufTy).Contents (Elt F)),
    nullary main_c_3 (constantI S_ 32 65536#32),
    unary main_c_3 main_v21 (broadcastInDim S65536 ![] bcast_S_S65536 : (⟨S_, .i32⟩ : BufTy).Contents (Elt F) → (⟨S65536, .i32⟩ : BufTy).Contents (Elt F)),
    binary main_v18 main_v21 main_v22 (addi : (⟨S65536, .i32⟩ : BufTy).Contents (Elt F) → (⟨S65536, .i32⟩ : BufTy).Contents (Elt F) → (⟨S65536, .i32⟩ : BufTy).Contents (Elt F)),
    ternary main_v20 main_v22 main_v18 main_v23 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    nullary main_c_4 (constantI S_ 32 0#32),
    unary main_c_4 main_v24 (broadcastInDim S65536 ![] bcast_S_S65536 : (⟨S_, .i32⟩ : BufTy).Contents (Elt F) → (⟨S65536, .i32⟩ : BufTy).Contents (Elt F)),
    binary main_v16 main_v24 main_v25 (cmpi .slt : (⟨S65536, .i32⟩ : BufTy).Contents (Elt F) → (⟨S65536, .i32⟩ : BufTy).Contents (Elt F) → (⟨S65536, .i1⟩ : BufTy).Contents (Elt F)),
    nullary main_c_5 (constantI S_ 32 512#32),
    unary main_c_5 main_v26 (broadcastInDim S65536 ![] bcast_S_S65536 : (⟨S_, .i32⟩ : BufTy).Contents (Elt F) → (⟨S65536, .i32⟩ : BufTy).Contents (Elt F)),
    binary main_v16 main_v26 main_v27 (addi : (⟨S65536, .i32⟩ : BufTy).Contents (Elt F) → (⟨S65536, .i32⟩ : BufTy).Contents (Elt F) → (⟨S65536, .i32⟩ : BufTy).Contents (Elt F)),
    ternary main_v25 main_v27 main_v16 main_v28 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v23 main_v29 (broadcastInDim S65536x1 ![0] bcast_S65536_S65536x1_0 : (⟨S65536, .i32⟩ : BufTy).Contents (Elt F) → (⟨S65536x1, .i32⟩ : BufTy).Contents (Elt F)),
    unary main_v28 main_v30 (broadcastInDim S65536x1 ![0] bcast_S65536_S65536x1_0 : (⟨S65536, .i32⟩ : BufTy).Contents (Elt F) → (⟨S65536x1, .i32⟩ : BufTy).Contents (Elt F)),
    binary main_v29 main_v30 main_v31 ((fun a b => concatenate S65536x2 1 [⟨S65536x1, a⟩, ⟨S65536x1, b⟩] concatenates_S65536x1_S65536x1_S65536x2_d1) : (⟨S65536x1, .i32⟩ : BufTy).Contents (Elt F) → (⟨S65536x1, .i32⟩ : BufTy).Contents (Elt F) → (⟨S65536x2, .i32⟩ : BufTy).Contents (Elt F)),
    nullary main_cst_6 (constant S_ .f32 0x3F800000#32),
    unary main_cst_6 main_v32 (broadcastInDim S65536 ![] bcast_S_S65536 : (⟨S_, .f32⟩ : BufTy).Contents (Elt F) → (⟨S65536, .f32⟩ : BufTy).Contents (Elt F)),
    ternary main_v17 main_v31 main_v32 main_v33 ((fun x i u => Host.scatter scatter_S65536x512_S65536x2_S65536_n_01_01_1 (fun _ b => b) x i u) : (⟨S65536x512, .f32⟩ : BufTy).Contents (Elt F) → (⟨S65536x2, .i32⟩ : BufTy).Contents (Elt F) → (⟨S65536, .f32⟩ : BufTy).Contents (Elt F) → (⟨S65536x512, .f32⟩ : BufTy).Contents (Elt F)) ]

/-- The operations that compute the looked-up codes and the loss. -/
abbrev opsLoss : List (HloOp τ sig (Elt F)) :=
  [ binary main_v33 main_arg1 main_v34 ((fun l r => Host.dotGeneral dot_S65536x512_S512x32_S65536x32_1_0_0_1_n_n none l r) : (⟨S65536x512, .f32⟩ : BufTy).Contents (Elt F) → (⟨S512x32, .f32⟩ : BufTy).Contents (Elt F) → (⟨S65536x32, .f32⟩ : BufTy).Contents (Elt F)),
    reshape main_v34 main_v35 (rfl : (.f32 : EltTy) = .f32) shapeCasts_S65536x32_S2x32x32x32x32,
    binary main_v35 main_v0 main_v36 (subf : (⟨S2x32x32x32x32, .f32⟩ : BufTy).Contents (Elt F) → (⟨S2x32x32x32x32, .f32⟩ : BufTy).Contents (Elt F) → (⟨S2x32x32x32x32, .f32⟩ : BufTy).Contents (Elt F)),
    binary main_v36 main_v36 main_v37 (mulf : (⟨S2x32x32x32x32, .f32⟩ : BufTy).Contents (Elt F) → (⟨S2x32x32x32x32, .f32⟩ : BufTy).Contents (Elt F) → (⟨S2x32x32x32x32, .f32⟩ : BufTy).Contents (Elt F)),
    nullary main_cst_7 (constant S_ .f32 0x00000000#32),
    binary main_v37 main_cst_7 main_v38 ((fun x v => Host.reduceAdd x v reducesTo_S2x32x32x32x32_S_d0_1_2_3_4 h_S_) : (⟨S2x32x32x32x32, .f32⟩ : BufTy).Contents (Elt F) → (⟨S_, .f32⟩ : BufTy).Contents (Elt F) → (⟨S_, .f32⟩ : BufTy).Contents (Elt F)),
    nullary main_cst_8 (constant S_ .f32 0x4A000000#32),
    binary main_v38 main_cst_8 main_v39 (Host.divf : (⟨S_, .f32⟩ : BufTy).Contents (Elt F) → (⟨S_, .f32⟩ : BufTy).Contents (Elt F) → (⟨S_, .f32⟩ : BufTy).Contents (Elt F)),
    binary main_v35 main_v0 main_v40 (subf : (⟨S2x32x32x32x32, .f32⟩ : BufTy).Contents (Elt F) → (⟨S2x32x32x32x32, .f32⟩ : BufTy).Contents (Elt F) → (⟨S2x32x32x32x32, .f32⟩ : BufTy).Contents (Elt F)),
    binary main_v40 main_v40 main_v41 (mulf : (⟨S2x32x32x32x32, .f32⟩ : BufTy).Contents (Elt F) → (⟨S2x32x32x32x32, .f32⟩ : BufTy).Contents (Elt F) → (⟨S2x32x32x32x32, .f32⟩ : BufTy).Contents (Elt F)),
    nullary main_cst_9 (constant S_ .f32 0x00000000#32),
    binary main_v41 main_cst_9 main_v42 ((fun x v => Host.reduceAdd x v reducesTo_S2x32x32x32x32_S_d0_1_2_3_4 h_S_) : (⟨S2x32x32x32x32, .f32⟩ : BufTy).Contents (Elt F) → (⟨S_, .f32⟩ : BufTy).Contents (Elt F) → (⟨S_, .f32⟩ : BufTy).Contents (Elt F)),
    nullary main_cst_10 (constant S_ .f32 0x4A000000#32),
    binary main_v42 main_cst_10 main_v43 (Host.divf : (⟨S_, .f32⟩ : BufTy).Contents (Elt F) → (⟨S_, .f32⟩ : BufTy).Contents (Elt F) → (⟨S_, .f32⟩ : BufTy).Contents (Elt F)),
    nullary main_cst_11 (constant S_ .f32 0x3E800000#32),
    binary main_cst_11 main_v39 main_v44 (mulf : (⟨S_, .f32⟩ : BufTy).Contents (Elt F) → (⟨S_, .f32⟩ : BufTy).Contents (Elt F) → (⟨S_, .f32⟩ : BufTy).Contents (Elt F)),
    binary main_v43 main_v44 main_v45 (addf : (⟨S_, .f32⟩ : BufTy).Contents (Elt F) → (⟨S_, .f32⟩ : BufTy).Contents (Elt F) → (⟨S_, .f32⟩ : BufTy).Contents (Elt F)) ]

/-- The operations that compute the two other results. -/
abbrev opsOut : List (HloOp τ sig (Elt F)) :=
  [ binary main_v35 main_v0 main_v46 (subf : (⟨S2x32x32x32x32, .f32⟩ : BufTy).Contents (Elt F) → (⟨S2x32x32x32x32, .f32⟩ : BufTy).Contents (Elt F) → (⟨S2x32x32x32x32, .f32⟩ : BufTy).Contents (Elt F)),
    binary main_v0 main_v46 main_v47 (addf : (⟨S2x32x32x32x32, .f32⟩ : BufTy).Contents (Elt F) → (⟨S2x32x32x32x32, .f32⟩ : BufTy).Contents (Elt F) → (⟨S2x32x32x32x32, .f32⟩ : BufTy).Contents (Elt F)),
    nullary main_cst_12 (constant S_ .f32 0x00000000#32),
    binary main_v33 main_cst_12 main_v48 ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)),
    nullary main_cst_13 (constant S_ .f32 0x47800000#32),
    unary main_cst_13 main_v49 (broadcastInDim S512 ![] bcast_S_S512 : (⟨S_, .f32⟩ : BufTy).Contents (Elt F) → (⟨S512, .f32⟩ : BufTy).Contents (Elt F)),
    binary main_v48 main_v49 main_v50 (Host.divf : (⟨S512, .f32⟩ : BufTy).Contents (Elt F) → (⟨S512, .f32⟩ : BufTy).Contents (Elt F) → (⟨S512, .f32⟩ : BufTy).Contents (Elt F)),
    nullary main_cst_14 (constant S_ .f32 0x2EDBE6FF#32),
    unary main_cst_14 main_v51 (broadcastInDim S512 ![] bcast_S_S512 : (⟨S_, .f32⟩ : BufTy).Contents (Elt F) → (⟨S512, .f32⟩ : BufTy).Contents (Elt F)),
    binary main_v50 main_v51 main_v52 (addf : (⟨S512, .f32⟩ : BufTy).Contents (Elt F) → (⟨S512, .f32⟩ : BufTy).Contents (Elt F) → (⟨S512, .f32⟩ : BufTy).Contents (Elt F)),
    unary main_v52 main_v53 (Host.log : (⟨S512, .f32⟩ : BufTy).Contents (Elt F) → (⟨S512, .f32⟩ : BufTy).Contents (Elt F)),
    binary main_v50 main_v53 main_v54 (mulf : (⟨S512, .f32⟩ : BufTy).Contents (Elt F) → (⟨S512, .f32⟩ : BufTy).Contents (Elt F) → (⟨S512, .f32⟩ : BufTy).Contents (Elt F)),
    nullary main_cst_15 (constant S_ .f32 0x00000000#32),
    binary main_v54 main_cst_15 main_v55 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    unary main_v55 main_v56 (Host.negf : (⟨S_, .f32⟩ : BufTy).Contents (Elt F) → (⟨S_, .f32⟩ : BufTy).Contents (Elt F)),
    unary main_v56 main_v57 (Host.exp : (⟨S_, .f32⟩ : BufTy).Contents (Elt F) → (⟨S_, .f32⟩ : BufTy).Contents (Elt F)),
    unary main_v47 main_v58 ((transpose S2x32x32x32x32 [0, 4, 1, 2, 3] · transposes_S2x32x32x32x32_S2x32x32x32x32_0_4_1_2_3) : (⟨S2x32x32x32x32, .f32⟩ : BufTy).Contents (Elt F) → (⟨S2x32x32x32x32, .f32⟩ : BufTy).Contents (Elt F)),
    reshape main_v45 main_v59 (rfl : (.f32 : EltTy) = .f32) shapeCasts_S_S1x1,
    reshape main_v57 main_v60 (rfl : (.f32 : EltTy) = .f32) shapeCasts_S_S1x1 ]

/-- All the operations of the reference, in order. -/
abbrev ops : List (HloOp τ sig (Elt F)) := opsDist ++ (opsArgmin ++ (opsOneHot ++ (opsLoss ++ opsOut)))

set_option maxHeartbeats 2000000 in
/-- The program is these operations, run in order. -/
theorem main_eq (c : Dev nD) : main (F := F) c = seq ops := rfl

/-- No buffer of the program is scoped. -/
theorem scopedRefs_eq : (Finset.univ.filter fun b : Ref sig .tc => b.isScoped) = ∅ := by decide

/-- No semaphore of the program is scoped. -/
theorem scopedSems_eq : (Finset.univ.filter fun sm : SemLoc sig => sm.isScoped .tc) = ∅ := by decide

/-- Every operation touches tensor buffers of the program only. -/
theorem ops_sub : (ops : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., nullary_bufs_sub .., unary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., binary_bufs_sub .., reshape_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., unary_bufs_sub .., reshape_bufs_sub .., reshape_bufs_sub ..⟩

/-- Two stretches one after the other: the second from what the first leaves. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih _

section Stretches
variable (V : Valuation τ sig (Elt F))

/-- The first stretch moves the channel axis last. -/
theorem opsDist_main_v0 : after opsDist V (Proc.devRef .tc main_v0) = moved (F := F) (V (Proc.devRef .tc main_arg0)) := by
  after_results <;> rfl

/-- The first stretch leaves the squared distances. -/
theorem opsDist_main_v15 : after opsDist V (Proc.devRef .tc main_v15) = dists (F := F) (rows (moved (V (Proc.devRef .tc main_arg0)))) (V (Proc.devRef .tc main_arg1)) := by
  after_results <;> rfl

/-- `opsDist` leaves `main_arg0` as it was. -/
theorem opsDist_main_arg0 : after opsDist V (Proc.devRef .tc main_arg0) = V (Proc.devRef .tc main_arg0) := by after_results

/-- `opsDist` leaves `main_arg1` as it was. -/
theorem opsDist_main_arg1 : after opsDist V (Proc.devRef .tc main_arg1) = V (Proc.devRef .tc main_arg1) := by after_results

/-- The second stretch leaves the argmin of the squared distances. -/
theorem opsArgmin_main_v16 : after opsArgmin V (Proc.devRef .tc main_v16) = codes (F := F) (V (Proc.devRef .tc main_v15)) := by
  simp -implicitDefEqProofs only [opsArgmin, TRef.quaternary, TRef.nullary, TRef.toBuf, TRef.ofBuf, cast_eq]
  after_results <;> rfl

/-- `opsArgmin` leaves `main_v0` as it was. -/
theorem opsArgmin_main_v0 : after opsArgmin V (Proc.devRef .tc main_v0) = V (Proc.devRef .tc main_v0) := by after_results

/-- `opsArgmin` leaves `main_arg0` as it was. -/
theorem opsArgmin_main_arg0 : after opsArgmin V (Proc.devRef .tc main_arg0) = V (Proc.devRef .tc main_arg0) := by after_results

/-- `opsArgmin` leaves `main_arg1` as it was. -/
theorem opsArgmin_main_arg1 : after opsArgmin V (Proc.devRef .tc main_arg1) = V (Proc.devRef .tc main_arg1) := by after_results

/-- The third stretch leaves the one-hot rows. -/
theorem opsOneHot_main_v33 : after opsOneHot V (Proc.devRef .tc main_v33) = oneHot (F := F) (V (Proc.devRef .tc main_v16)) := by
  after_results <;> rfl

/-- `opsOneHot` leaves `main_v0` as it was. -/
theorem opsOneHot_main_v0 : after opsOneHot V (Proc.devRef .tc main_v0) = V (Proc.devRef .tc main_v0) := by after_results

/-- `opsOneHot` leaves `main_arg0` as it was. -/
theorem opsOneHot_main_arg0 : after opsOneHot V (Proc.devRef .tc main_arg0) = V (Proc.devRef .tc main_arg0) := by after_results

/-- `opsOneHot` leaves `main_arg1` as it was. -/
theorem opsOneHot_main_arg1 : after opsOneHot V (Proc.devRef .tc main_arg1) = V (Proc.devRef .tc main_arg1) := by after_results

/-- The fourth stretch leaves the looked-up codes. -/
theorem opsLoss_main_v35 : after opsLoss V (Proc.devRef .tc main_v35) = lookup (F := F) (V (Proc.devRef .tc main_v33)) (V (Proc.devRef .tc main_arg1)) := by
  after_results <;> rfl

/-- The fourth stretch leaves the loss. -/
theorem opsLoss_main_v45 : after opsLoss V (Proc.devRef .tc main_v45) = lossOf (F := F) (lookup (V (Proc.devRef .tc main_v33)) (V (Proc.devRef .tc main_arg1))) (V (Proc.devRef .tc main_v0)) := by
  after_results <;> rfl

/-- `opsLoss` leaves `main_v0` as it was. -/
theorem opsLoss_main_v0 : after opsLoss V (Proc.devRef .tc main_v0) = V (Proc.devRef .tc main_v0) := by after_results

/-- `opsLoss` leaves `main_v33` as it was. -/
theorem opsLoss_main_v33 : after opsLoss V (Proc.devRef .tc main_v33) = V (Proc.devRef .tc main_v33) := by after_results

/-- `opsLoss` leaves `main_arg0` as it was. -/
theorem opsLoss_main_arg0 : after opsLoss V (Proc.devRef .tc main_arg0) = V (Proc.devRef .tc main_arg0) := by after_results

/-- `opsLoss` leaves `main_arg1` as it was. -/
theorem opsLoss_main_arg1 : after opsLoss V (Proc.devRef .tc main_arg1) = V (Proc.devRef .tc main_arg1) := by after_results

/-- The last stretch leaves the second result. -/
theorem opsOut_main_v58 : after opsOut V (Proc.devRef .tc main_v58) = passed (F := F) (V (Proc.devRef .tc main_v35)) (V (Proc.devRef .tc main_v0)) := by
  after_results <;> rfl

/-- The last stretch leaves the loss as an array of one entry. -/
theorem opsOut_main_v59 : after opsOut V (Proc.devRef .tc main_v59) = shapeCast S1x1 (V (Proc.devRef .tc main_v45) : (⟨S_, .f32⟩ : BufTy).Contents (Elt F)) shapeCasts_S_S1x1 := by
  after_results <;> rfl

/-- The last stretch leaves the perplexity as an array of one entry. -/
theorem opsOut_main_v60 : after opsOut V (Proc.devRef .tc main_v60) = shapeCast S1x1 (perplexity (F := F) (usage (V (Proc.devRef .tc main_v33)))) shapeCasts_S_S1x1 := by
  after_results <;> rfl

/-- `opsOut` leaves `main_v33` as it was. -/
theorem opsOut_main_v33 : after opsOut V (Proc.devRef .tc main_v33) = V (Proc.devRef .tc main_v33) := by after_results

/-- `opsOut` leaves `main_arg0` as it was. -/
theorem opsOut_main_arg0 : after opsOut V (Proc.devRef .tc main_arg0) = V (Proc.devRef .tc main_arg0) := by after_results

/-- `opsOut` leaves `main_arg1` as it was. -/
theorem opsOut_main_arg1 : after opsOut V (Proc.devRef .tc main_arg1) = V (Proc.devRef .tc main_arg1) := by after_results

end Stretches

/-! ## The run -/

/-- The looked-up codes of the whole program. -/
abbrev quant (x : (⟨S2x32x32x32x32, .f32⟩ : BufTy).Contents (Elt F)) (w : (⟨S512x32, .f32⟩ : BufTy).Contents (Elt F)) :
    (⟨S2x32x32x32x32, .f32⟩ : BufTy).Contents (Elt F) := lookup (oneHot (codes (dists (rows (moved x)) w))) w

/-- The one-hot rows of the whole program. -/
abbrev encs (x : (⟨S2x32x32x32x32, .f32⟩ : BufTy).Contents (Elt F)) (w : (⟨S512x32, .f32⟩ : BufTy).Contents (Elt F)) :
    (⟨S65536x512, .f32⟩ : BufTy).Contents (Elt F) := oneHot (codes (dists (rows (moved x)) w))

section Whole
variable (V : Valuation τ sig (Elt F))

/-- The whole line leaves the one-hot rows. -/
theorem ops_main_v33 : after ops V (Proc.devRef .tc main_v33) = encs (F := F) (V (Proc.devRef .tc main_arg0)) (V (Proc.devRef .tc main_arg1)) := by
  rw [ops, after_two, after_two, after_two, after_two, opsOut_main_v33, opsLoss_main_v33, opsOneHot_main_v33, opsArgmin_main_v16, opsDist_main_v15]

/-- The whole line leaves the input moved to its codes. -/
theorem ops_main_v58 : after ops V (Proc.devRef .tc main_v58)
    = passed (F := F) (quant (V (Proc.devRef .tc main_arg0)) (V (Proc.devRef .tc main_arg1))) (moved (V (Proc.devRef .tc main_arg0))) := by
  rw [ops, after_two, after_two, after_two, after_two, opsOut_main_v58, opsLoss_main_v35, opsLoss_main_v0, opsOneHot_main_v33, opsOneHot_main_v0, opsOneHot_main_arg1,
    opsArgmin_main_v16, opsArgmin_main_v0, opsArgmin_main_arg1, opsDist_main_v15, opsDist_main_v0, opsDist_main_arg1]

/-- The whole line leaves the loss. -/
theorem ops_main_v59 : after ops V (Proc.devRef .tc main_v59)
    = shapeCast S1x1 (lossOf (F := F) (quant (V (Proc.devRef .tc main_arg0)) (V (Proc.devRef .tc main_arg1))) (moved (V (Proc.devRef .tc main_arg0)))) shapeCasts_S_S1x1 := by
  rw [ops, after_two, after_two, after_two, after_two, opsOut_main_v59, opsLoss_main_v45, opsOneHot_main_v33, opsOneHot_main_v0, opsOneHot_main_arg1,
    opsArgmin_main_v16, opsArgmin_main_v0, opsArgmin_main_arg1, opsDist_main_v15, opsDist_main_v0, opsDist_main_arg1]

/-- The whole line leaves the perplexity. -/
theorem ops_main_v60 : after ops V (Proc.devRef .tc main_v60)
    = shapeCast S1x1 (perplexity (F := F) (usage (encs (V (Proc.devRef .tc main_arg0)) (V (Proc.devRef .tc main_arg1))))) shapeCasts_S_S1x1 := by
  rw [ops, after_two, after_two, after_two, after_two, opsOut_main_v60, opsLoss_main_v33, opsOneHot_main_v33, opsArgmin_main_v16, opsDist_main_v15]

/-- The whole line leaves the first argument as it was. -/
theorem ops_main_arg0 : after ops V (Proc.devRef .tc main_arg0) = V (Proc.devRef .tc main_arg0) := by
  rw [ops, after_two, after_two, after_two, after_two, opsOut_main_arg0, opsLoss_main_arg0, opsOneHot_main_arg0, opsArgmin_main_arg0, opsDist_main_arg0]

/-- The whole line leaves the second argument as it was. -/
theorem ops_main_arg1 : after ops V (Proc.devRef .tc main_arg1) = V (Proc.devRef .tc main_arg1) := by
  rw [ops, after_two, after_two, after_two, after_two, opsOut_main_arg1, opsLoss_main_arg1, opsOneHot_main_arg1, opsArgmin_main_arg1, opsDist_main_arg1]

end Whole

set_option maxHeartbeats 2000000 in
/-- From any memory with zero counters every weakly fair execution of the reference terminates, with each result the
    composition of the stages at the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59) = shapeCast S1x1 (lossOf (F := F) (quant (m ((c.tc : Thread nD τ).loc main_arg0)) (m ((c.tc : Thread nD τ).loc main_arg1))) (moved (m ((c.tc : Thread nD τ).loc main_arg0)))) shapeCasts_S_S1x1
      ∧ r.2.mem ((c.tc : Thread nD τ).loc main_v58) = passed (F := F) (quant (m ((c.tc : Thread nD τ).loc main_arg0)) (m ((c.tc : Thread nD τ).loc main_arg1))) (moved (m ((c.tc : Thread nD τ).loc main_arg0)))
      ∧ r.2.mem ((c.tc : Thread nD τ).loc main_v60) = shapeCast S1x1 (perplexity (F := F) (usage (encs (m ((c.tc : Thread nD τ).loc main_arg0)) (m ((c.tc : Thread nD τ).loc main_arg1))))) shapeCasts_S_S1x1
      ∧ r.2.mem ((c.tc : Thread nD τ).loc main_v33) = encs (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v59).trans (ops_main_v59 _), (h c main_v58).trans (ops_main_v58 _),
      (h c main_v60).trans (ops_main_v60 _), (h c main_v33).trans (ops_main_v33 _), (h c main_arg0).trans (ops_main_arg0 _),
      (h c main_arg1).trans (ops_main_arg1 _)⟩)
    (run_seq scopedRefs_eq scopedSems_eq defs main (fun _ => ops) main_eq (fun _ => ops_sub) m ρ)

end Cert.Ref

end
-- ==== Proof.RefRead.lean ====
/- The reference's stages at the ideal values, on arguments whose entries are real numbers: each array, read at an index. -/
module

public import proofs.«01_k».proof.Proof.RefRun
public import proofs.«01_k».proof.Proof.Nearest
public import Idealize.ShloMosaic.Lib.Pipeline.Value
public import Idealize.ShloMosaic.Lib.ValueIdx
public import Idealize.ShloMosaic.Lib.Routing.OpsSet

@[expose] public section

set_option maxRecDepth 16384

noncomputable section

namespace Cert.Ref

open Cert.ReferenceIdeal Cert.ReferenceIdeal.Gen Idealize.ShloMosaic Cert.VQ

section Values
variable (x : FVec Ideal S2x32x32x32x32 .f32) (w : FVec Ideal S512x32 .f32)
variable (X : Fin 2 → Fin 32 → Fin 32 → Fin 32 → Fin 32 → ℝ) (W : Fin 512 → Fin 32 → ℝ)
variable (hx : ∀ a b c d e, x (ix5 a b c d e) = ((X a b c d e : ℝ) : EReal)) (hw : ∀ k c, w (ix2 k c) = ((W k c : ℝ) : EReal))

include hx in
/-- The moved input at a position and channel. -/
theorem moved_apply (b : Fin 2) (d h v c : Fin 32) : moved (F := Ideal) x (ix5 b d h v c) = ((X b c d h v : ℝ) : EReal) := by
  unfold moved
  pointwise
  exact hx b c d h v

include hx in
/-- The rows are the tokens. -/
theorem rows_apply (n : Fin 65536) (c : Fin 32) : rows (F := Ideal) (moved x) (ix2 n c) = ((token X n c : ℝ) : EReal) := by
  have hn := n.isLt
  unfold rows
  refine (shapeCast_apply _ _ _ (ix5 (⟨n.val / 32768, by omega⟩ : Fin 2) (⟨n.val / 1024 % 32, by omega⟩ : Fin 32)
    (⟨n.val / 32 % 32, by omega⟩ : Fin 32) (⟨n.val % 32, by omega⟩ : Fin 32) c) ?_).trans (moved_apply x X hx _ _ _ _ _)
  rw [Shape.rowMajor_val_five, Shape.rowMajor_val_two]
  show (((n.val / 32768 * 32 + n.val / 1024 % 32) * 32 + n.val / 32 % 32) * 32 + n.val % 32) * 32 + c.val = n.val * 32 + c.val
  omega

include hx hw in
/-- The distance of each row to each code is the squared Euclidean distance. -/
theorem dists_apply (n : Fin 65536) (k : Fin 512) :
    dists (F := Ideal) (rows (moved x)) w (ix2 n k) = ((sqDist (token X n) (W k) : ℝ) : EReal) := by
  have h2 : Ideal.ofBits FTy.f32 1073741824#32 = ((2 : ℝ) : EReal) := by
    simp [Ideal.ofBits, Ideal.ieee, -EReal.coe_mul]; norm_num
  have hr := rows_apply x X hx
  generalize rows (F := Ideal) (moved x) = f at hr
  unfold dists
  pointwise
  simp only [hr, hw, h2]
  rw [sqDist_eq, EReal.coe_sub, EReal.coe_add, EReal.coe_mul, coe_sum, coe_sum, coe_sum]
  simp only [EReal.coe_mul]

/-- The reducer of the reference is the step of the scan for the first least entry. -/
theorem reducer_eq (a b : EReal × BitVec 32) : reducer_argmin_f32_i32 (F := Ideal) a b = step a b := by
  obtain ⟨p, i⟩ := a
  obtain ⟨q, j⟩ := b
  have hs : IntOp.cmpi .slt i j = BitVec.ofBool (i.slt j) := rfl
  unfold reducer_argmin_f32_i32 step
  simp only [Ideal.cmpf_def, Ideal.cmp, hs]
  by_cases h1 : p < q
  · generalize decide (p = q) = x
    cases x <;> cases i.slt j <;> simp [Scalar.select, IntOp.ori, IntOp.andi, h1]
  · by_cases h2 : p = q <;> cases h3 : i.slt j <;> simp [Scalar.select, IntOp.ori, IntOp.andi, h1, h2, h3]

/-- The code found for a row of real distances is the first least one. -/
theorem argmin_apply (d : FVec Ideal S65536x512 .f32) (D : Fin 512 → ℝ) (n : Fin 65536)
    (hd : ∀ k, d (ix2 n k) = ((D k : ℝ) : EReal)) : codes (F := Ideal) d (ix1 n) = BitVec.ofNat 32 (first D).val := by
  have hl : (List.finRange 512).map (fun k => (d (ix2 n k), iotaInDim S65536x512 32 1 (ix2 n k))) = (List.finRange 512).map (pair D) :=
    List.map_congr_left fun k _ => Prod.ext (hd k) rfl
  have ht : (constant S_ FTy.f32 0x7F800000#32 : FVec Ideal S_ FTy.f32) (Shape.Idx.first h_S_) = (⊤ : EReal) := by
    pointwise
    simp [Ideal.ofBits, Ideal.ieee]
  have hz : constantI S_ 32 0#32 (Shape.Idx.first h_S_) = 0#32 := rfl
  have hf : reducer_argmin_f32_i32 (F := Ideal) = step := funext fun a => funext fun b => reducer_eq a b
  have ha := argReduceFiber_row d (iotaInDim S65536x512 32 1) reducesTo_S65536x512_S65536_d1 (ix1 n) n
    (fun i => Shape.ReducesTo.fiber_r2_a1 reducesTo_S65536x512_S65536_d1 (ix1 n) i)
  obtain ⟨g, hg⟩ : ∃ g : S65536.Idx → EReal × BitVec 32, g = Host.argReduce (φ := .f32) (F := Ideal) reducer_argmin_f32_i32 d
    (iotaInDim S65536x512 32 1) (constant S_ .f32 0x7F800000#32) (constantI S_ 32 0#32) reducesTo_S65536x512_S65536_d1 h_S_ := ⟨_, rfl⟩
  have hc : codes (F := Ideal) d = fun j => (g j).2 := by
    subst hg
    unfold codes
    with_reducible rfl
  have hp : g (ix1 n) = pair D (first D) := by
    rw [hg, Ideal.argReduce_eq_reduce2, Host.reduce2_eq_foldl_fiber, ha, hl, hf, ht, hz, foldl_all]
  rw [hc]
  show (g (ix1 n)).2 = _
  rw [hp]
  rfl

include hx hw in
/-- The code of a row is the first code at the least distance. -/
theorem codes_apply (n : Fin 65536) :
    codes (F := Ideal) (dists (rows (moved x)) w) (ix1 n) = BitVec.ofNat 32 (code X W n).val :=
  argmin_apply _ _ n (dists_apply x w X W hx hw n)

/-- A small natural number's word, read signed. -/
theorem toInt_small (n : Nat) (h : n < 2 ^ 31) : (BitVec.ofNat 32 n).toInt = (n : Int) := by
  rw [BitVec.toInt_eq_toNat_cond, BitVec.toNat_ofNat, Nat.mod_eq_of_lt (by omega), if_pos (by omega)]

/-- The table of cells: the row, then its code. -/
theorem cells_apply (k : IVec S65536 32) (κ : Fin 65536 → Fin 512) (hk : ∀ n, k (ix1 n) = BitVec.ofNat 32 (κ n).val)
    (n : Fin 65536) : cells (F := Ideal) k (ix2 n 0) = BitVec.ofNat 32 n.val ∧ cells (F := Ideal) k (ix2 n 1) = BitVec.ofNat 32 (κ n).val := by
  have hn := n.isLt
  have hc := (κ n).isLt
  constructor
  · unfold cells wrapped
    pointwise
    refine Routing.wrap_of_lt _ _ ?_
    rw [BitVec.toNat_ofNat]
    omega
  · unfold cells wrapped
    pointwise
    rw [hk]
    refine Routing.wrap_of_lt _ _ ?_
    rw [BitVec.toNat_ofNat]
    omega

/-- An update of the scatter lands on the cell named by its two index words, read signed. -/
theorem lands (t : IVec S65536x2 32) (n : Fin 65536) (r : Fin 65536) (j : Fin 512) :
    scatter_S65536x512_S65536x2_S65536_n_01_01_1.resultIdx? (ix1 n) t = some (ix2 r j)
      ↔ (t (ix2 n 0)).toInt = (r.val : Int) ∧ (t (ix2 n 1)).toInt = (j.val : Int) := by
  have hs : ∀ q : Fin 2, scatter_S65536x512_S65536x2_S65536_n_01_01_1.start (ix1 n) t q = (t (ix2 n q)).toInt := by
    intro q
    have hq : q ∈ scatter_S65536x512_S65536x2_S65536_n_01_01_1.scatterDimsToOperandDims := by
      show q ∈ [(0 : Fin 2), 1]
      fin_cases q <;> decide
    unfold ScatterDims.start
    rw [dif_pos hq]
    congr 2
    funext a
    apply Fin.ext
    match a with
    | ⟨0, _⟩ =>
      unfold ScatterDims.siIdx
      rw [dif_neg (show ¬ ((⟨0, by decide⟩ : Fin S65536x2.rank).val = scatter_S65536x512_S65536x2_S65536_n_01_01_1.indexVectorDim) by decide)]
      rfl
    | ⟨1, _⟩ =>
      unfold ScatterDims.siIdx
      rw [dif_pos (show (⟨1, by decide⟩ : Fin S65536x2.rank).val = scatter_S65536x512_S65536x2_S65536_n_01_01_1.indexVectorDim from rfl)]
      fin_cases q <;> rfl
  have hwin : ∀ q : Fin 2, scatter_S65536x512_S65536x2_S65536_n_01_01_1.window (ix1 n) q = 0 := by
    intro q
    unfold ScatterDims.window
    rw [dif_neg (by fin_cases q <;> decide)]
  refine (Routing.resultIdx?_ix2 scatter_S65536x512_S65536x2_S65536_n_01_01_1 (ix1 n) t r j).trans ?_
  rw [hs 0, hs 1, hwin 0, hwin 1]
  simp

/-- The rows of codes: one at the row's code, zero elsewhere. -/
theorem oneHot_apply (k : IVec S65536 32) (κ : Fin 65536 → Fin 512) (hk : ∀ n, k (ix1 n) = BitVec.ofNat 32 (κ n).val)
    (n : Fin 65536) (j : Fin 512) : oneHot (F := Ideal) k (ix2 n j) = if j = κ n then (1 : EReal) else 0 := by
  have hc := cells_apply k κ hk
  unfold oneHot
  generalize cells (F := Ideal) k = t at hc
  have hl : ∀ m : Fin 65536, scatter_S65536x512_S65536x2_S65536_n_01_01_1.resultIdx? (ix1 m) t = some (ix2 n j) ↔ m = n ∧ κ m = j := by
    intro m
    have hm := m.isLt
    have hκ := (κ m).isLt
    rw [lands, (hc m).1, (hc m).2, toInt_small m.val (by omega), toInt_small (κ m).val (by omega), Fin.ext_iff, Fin.ext_iff]
    omega
  split
  · next h =>
    refine Routing.scatter_set_hit _ _ _ _ _ _ (fun u _ => ?_) (ix1 n) ((hl n).2 ⟨rfl, h.symm⟩)
    idx_vars u
    pointwise
  · next h =>
    refine (Routing.scatter_set_miss _ _ _ _ _ (fun u hu => ?_)).trans ?_
    · idx_vars u
      have hm := (hl _).1 hu
      exact h (by rw [← hm.2, hm.1])
    · pointwise

/-- The looked-up array: the code of the position. -/
theorem lookup_apply (e : FVec Ideal S65536x512 .f32) (κ : Fin 65536 → Fin 512) (he : ∀ n j, e (ix2 n j) = if j = κ n then (1 : EReal) else 0)
    (hw : ∀ k c, w (ix2 k c) = ((W k c : ℝ) : EReal))
    (b : Fin 2) (d h v c : Fin 32) : lookup (F := Ideal) e w (ix5 b d h v c) = ((W (κ (position b d h v)) c : ℝ) : EReal) := by
  unfold lookup
  refine (shapeCast_apply _ _ _ (ix2 (position b d h v) c) ?_).trans ?_
  · rw [Shape.rowMajor_val_five, Shape.rowMajor_val_two]
    rfl
  · pointwise
    simp only [he, hw]
    simp

/-- The loss of a real array against a real array. -/
theorem lossOf_apply (q xt : FVec Ideal S2x32x32x32x32 .f32) (Q T : Fin 2 → Fin 32 → Fin 32 → Fin 32 → Fin 32 → ℝ)
    (hq : ∀ b d h v c, q (ix5 b d h v c) = ((Q b d h v c : ℝ) : EReal)) (ht : ∀ b d h v c, xt (ix5 b d h v c) = ((T b d h v c : ℝ) : EReal))
    (i : S_.Idx) : lossOf (F := Ideal) q xt i = (((∑ b, ∑ d, ∑ h, ∑ v, ∑ c, (Q b d h v c - T b d h v c) ^ 2) * (5 / 4) / 2097152 : ℝ) : EReal) := by
  have h1 : Ideal.ofBits FTy.f32 1241513984#32 = ((2097152 : ℝ) : EReal) := by
    simp [Ideal.ofBits, Ideal.ieee, -EReal.coe_mul]; norm_num
  have h2 : Ideal.ofBits FTy.f32 1048576000#32 = ((1 / 4 : ℝ) : EReal) := by
    simp [Ideal.ofBits, Ideal.ieee, -EReal.coe_mul]; norm_num
  unfold lossOf meanSq
  pointwise
  rw [h1, h2, Ideal.hostReduceAdd_total _ (by decide), zero_add, sum_idx5]
  have : ∀ b d h v c, mulf (F := Ideal) (subf q xt) (subf q xt) (ix5 b d h v c) = (((Q b d h v c - T b d h v c) ^ 2 : ℝ) : EReal) := by
    intro b d h v c
    pointwise
    rw [hq, ht, ← EReal.coe_sub, ← EReal.coe_mul, sq]
  simp only [this, ← coe_sum]
  rw [Ideal.div_coe (by norm_num), ← EReal.coe_mul]
  refine (EReal.coe_add _ _).symm.trans (congrArg _ ?_)
  ring

/-- The passed-on array is the looked-up one, moved back. -/
theorem passed_apply (q xt : FVec Ideal S2x32x32x32x32 .f32) (Q T : Fin 2 → Fin 32 → Fin 32 → Fin 32 → Fin 32 → ℝ)
    (hq : ∀ b d h v c, q (ix5 b d h v c) = ((Q b d h v c : ℝ) : EReal)) (ht : ∀ b d h v c, xt (ix5 b d h v c) = ((T b d h v c : ℝ) : EReal))
    (b : Fin 2) (c d h v : Fin 32) : passed (F := Ideal) q xt (ix5 b c d h v) = ((Q b d h v c : ℝ) : EReal) := by
  unfold passed
  pointwise
  rw [hq, ht, ← EReal.coe_sub, ← EReal.coe_add]
  congr 1
  ring

/-- The share of each code. -/
theorem usage_apply (e : FVec Ideal S65536x512 .f32) (k : Fin 512) :
    usage (F := Ideal) e (ix1 k) = Ideal.div (∑ n : Fin 65536, e (ix2 n k)) (Ideal.ofBits .f32 0x47800000#32) := by
  unfold usage
  pointwise

/-- The perplexity of the shares. -/
theorem perplexity_apply (p : FVec Ideal S512 .f32) (i : S_.Idx) :
    perplexity (F := Ideal) p i = Ideal.exp (-∑ k : Fin 512, p (ix1 k) * Ideal.log (p (ix1 k) + Ideal.ofBits .f32 0x2EDBE6FF#32)) := by
  unfold perplexity
  pointwise

end Values

end Cert.Ref

end
-- ==== Proof.Equal.lean ====
/- The kernel's four results are the reference's, on real arguments, at the ideal values. -/
module

public import proofs.«01_k».proof.Proof.Sweep
public import proofs.«01_k».proof.Proof.RefRead

@[expose] public section

set_option maxRecDepth 16384

noncomputable section

namespace Cert.Equal

open Idealize.ShloMosaic Idealize.ShloMosaic.TcCoe Idealize.SL.Sem Cert.KernelIdeal Cert.KernelIdeal.Gen Cert.KernelIdeal.Value Cert.VQ Cert.Kern

/-! ## The reference's results -/

section Reference
variable (x : FVec Ideal S2x32x32x32x32 .f32) (w : FVec Ideal S512x32 .f32)
variable (X : Fin 2 → Fin 32 → Fin 32 → Fin 32 → Fin 32 → ℝ) (W : Fin 512 → Fin 32 → ℝ)
variable (hx : ∀ a b c d e, x (ix5 a b c d e) = ((X a b c d e : ℝ) : EReal)) (hw : ∀ k c, w (ix2 k c) = ((W k c : ℝ) : EReal))

include hx hw

/-- The one-hot rows set each token's code. -/
theorem ref_codes (n : Fin 65536) (k : Fin 512) : Ref.encs (F := Ideal) x w (ix2 n k) = hit X W k n :=
  Ref.oneHot_apply _ (code X W) (Ref.codes_apply x w X W hx hw) n k

/-- The looked-up array holds each token's code's row. -/
theorem ref_rows (b : Fin 2) (d h v e : Fin 32) :
    Ref.quant (F := Ideal) x w (ix5 b d h v e) = ((W (code X W (position b d h v)) e : ℝ) : EReal) :=
  Ref.lookup_apply w W (Ref.encs (F := Ideal) x w) (code X W) (ref_codes x w X W hx hw) hw b d h v e

/-- The quantized result holds the same, its channel axis moved back. -/
theorem ref_passed (b : Fin 2) (e d h v : Fin 32) :
    Ref.passed (F := Ideal) (Ref.quant x w) (Ref.moved x) (ix5 b e d h v) = ((W (code X W (position b d h v)) e : ℝ) : EReal) :=
  Ref.passed_apply _ _ (fun b d h v e => W (code X W (position b d h v)) e) (fun b d h v e => X b e d h v)
    (ref_rows x w X W hx hw) (Ref.moved_apply x X hx) b e d h v

/-- The loss is five quarters of the mean squared distance of the tokens to their codes. -/
theorem ref_loss (i : S_.Idx) :
    Ref.lossOf (F := Ideal) (Ref.quant x w) (Ref.moved x) i = (((∑ n, gap X W n) * (5 / 4) / 2097152 : ℝ) : EReal) := by
  rw [Ref.lossOf_apply _ _ (fun b d h v e => W (code X W (position b d h v)) e) (fun b d h v e => X b e d h v)
    (ref_rows x w X W hx hw) (Ref.moved_apply x X hx) i, sum_position]
  simp only [gap, sqDist, token_position]

/-- The perplexity is of the counts over the tokens. -/
theorem ref_perplexity (i : S_.Idx) : Ref.perplexity (F := Ideal) (Ref.usage (Ref.encs x w)) i
    = Ideal.exp (-∑ k : Fin 512, Ideal.div (∑ n, hit X W k n) (Ideal.ofBits .f32 0x47800000#32)
      * Ideal.log (Ideal.div (∑ n, hit X W k n) (Ideal.ofBits .f32 0x47800000#32) + Ideal.ofBits .f32 0x2EDBE6FF#32)) := by
  rw [Ref.perplexity_apply]
  simp only [Ref.usage_apply, ref_codes x w X W hx hw]

end Reference

/-! ## The equations -/

section Equations
variable (m : (ℓ : Loc nD τ sig) → Buf (Elt Ideal) ℓ) (c : Dev nD)
variable (x : FVec Ideal S2x32x32x32x32 .f32) (w : FVec Ideal S512x32 .f32)
  (hmx : x = m ((c : Thread nD τ).loc main_arg0)) (hmw : w = m ((c : Thread nD τ).loc main_arg1))
  (hx : ∀ i, x i = ((x i).toReal : EReal)) (hw : ∀ i, w i = ((w i).toReal : EReal))

include hmx hmw hx hw

/-- The one-hot arrays agree. -/
theorem codes_eq : G4 m c = Ref.encs (F := Ideal) x w := by
  subst hmx hmw
  funext j
  idx_vars j
  exact (G4_apply m c (fun a b d e f => _) (fun k e => _) (fun a b d e f => hx _) (fun k e => hw _) _ _).trans
    (ref_codes _ _ _ _ (fun a b d e f => hx _) (fun k e => hw _) _ _).symm

/-- The quantized arrays agree. -/
theorem rows_eq : G5 m c = Ref.passed (F := Ideal) (Ref.quant x w) (Ref.moved x) := by
  subst hmx hmw
  funext j
  idx_vars j
  exact (G5_apply m c (fun a b d e f => _) (fun k e => _) (fun a b d e f => hx _) (fun k e => hw _) _ _ _ _ _).trans
    (ref_passed _ _ _ _ (fun a b d e f => hx _) (fun k e => hw _) _ _ _ _ _).symm

/-- The losses agree. -/
theorem loss_eq (hs : S_.ShapeCasts S1x1) : G6 m c = shapeCast S1x1 (Ref.lossOf (F := Ideal) (Ref.quant x w) (Ref.moved x)) hs := by
  subst hmx hmw
  funext j
  have hj : j = ix2 (0 : Fin 1) (0 : Fin 1) := funext fun a => match a with
    | ⟨0, _⟩ => Subsingleton.elim (α := Fin 1) _ _
    | ⟨1, _⟩ => Subsingleton.elim (α := Fin 1) _ _
  rw [hj]
  refine (G6_apply m c (fun a b d e f => _) (fun k e => _) (fun a b d e f => hx _) (fun k e => hw _)).trans ?_
  refine Eq.trans ?_ (ref_loss _ _ _ _ (fun a b d e f => hx _) (fun k e => hw _) _).symm
  rw [← coe_sum, ← EReal.coe_mul, Ideal.div_coe (by norm_num), ← EReal.coe_mul]
  exact congrArg _ (by ring)

/-- The perplexities agree. -/
theorem perplexity_eq (hs : S_.ShapeCasts S1x1) : G7 m c = shapeCast S1x1 (Ref.perplexity (F := Ideal) (Ref.usage (Ref.encs x w))) hs := by
  subst hmx hmw
  funext j
  have hj : j = ix2 (0 : Fin 1) (0 : Fin 1) := funext fun a => match a with
    | ⟨0, _⟩ => Subsingleton.elim (α := Fin 1) _ _
    | ⟨1, _⟩ => Subsingleton.elim (α := Fin 1) _ _
  rw [hj]
  exact (G7_apply m c (fun a b d e f => _) (fun k e => _) (fun a b d e f => hx _) (fun k e => hw _)).trans
    (ref_perplexity _ _ _ _ (fun a b d e f => hx _) (fun k e => hw _) _).symm

end Equations

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Finite
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference's run leaves the arguments unchanged and every semaphore at zero. -/
theorem reference_frame : Cert.quiescent_ReferenceIdeal (hReferenceIdeal := Cert.ReferenceIdeal.Gen.facts) := fun m ρ _ =>
  (θ_run _ _ _).mono (fun r h => ⟨fun c => ⟨(h c).2.2.2.2.1, (h c).2.2.2.2.2⟩,
    Idealize.ShloMosaic.sem_eq_zero_of_no_sems (by decide) r.2⟩) (Cert.Ref.run (F := Ideal) m ρ)

/-- The kernel's four results are the reference's on arguments whose elements are all finite. -/
theorem values : Cert.algebraic_KernelIdeal_ReferenceIdeal_pre_finite (hKernelIdeal := Cert.KernelIdeal.Gen.facts)
    (hReferenceIdeal := Cert.ReferenceIdeal.Gen.facts) (hPre_finite := Cert.Pre_finite.facts) := fun m g m' g' hpre hargs => by
  haveI := Cert.Pre_finite.facts
  have hreal := fun c => Cert.Pre_finite.real_of_fn _ _ (hpre c)
  refine ⟨fun c => Cert.KernelIdeal.Value.G6 m c, fun c => Cert.KernelIdeal.Value.G5 m c, fun c => Cert.KernelIdeal.Value.G7 m c,
    fun c => Cert.KernelIdeal.Value.G4 m c, ?_, ?_⟩
  · refine (θ_run _ _ _).mono (fun r h c => ?_) (Cert.KernelIdeal.Value.run m g)
    obtain ⟨h4, h5, h6, h7, ha, hb⟩ := h c
    exact ⟨h6, h5, h7, h4, ha, hb⟩
  · refine (θ_run _ _ _).mono (fun r h c => ?_) (Cert.Ref.run (F := Ideal) m' g')
    obtain ⟨hl, hq, hp, he, ha, hb⟩ := h c
    obtain ⟨e0, e1⟩ := hargs c
    obtain ⟨hx, hw⟩ := hreal c
    rw [e0, e1] at hl hq hp he
    exact ⟨hl.trans (Cert.Equal.loss_eq m c _ _ rfl rfl hx hw _).symm, hq.trans (Cert.Equal.rows_eq m c _ _ rfl rfl hx hw).symm,
      hp.trans (Cert.Equal.perplexity_eq m c _ _ rfl rfl hx hw _).symm, he.trans (Cert.Equal.codes_eq m c _ _ rfl rfl hx hw).symm, ha, hb⟩

theorem claim : Cert.Claim := ⟨Cert.Kernel.Gen.facts, Cert.KernelIdeal.Gen.facts, Cert.ReferenceIdeal.Gen.facts, Cert.Pre_finite.facts,
  fun m g _ => Cert.Kernel.Gen.frame m g,
  fun m g _ => Cert.KernelIdeal.Gen.frame m g,
  fun m g _ => Cert.KernelIdeal.Gen.frame m g,
  reference_frame,
  fun m g _ => reference_frame m g trivial,
  trivial, values⟩

end Cert.Proof

end
